-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 2048]⟩ ⟨3, ![4, 1024, 2048]⟩ (Layout.meshBlock [2, 2, 4] ![[2], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 512]⟩ ⟨2, ![1024, 2048]⟩ (Layout.meshBlock [2, 2, 4] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x2048 : Shape := ⟨3, ![1, 1024, 2048]⟩
abbrev S1024x512 : Shape := ⟨2, ![1024, 512]⟩
abbrev S3x256x512 : Shape := ⟨3, ![3, 256, 512]⟩
abbrev S256x512 : Shape := ⟨2, ![256, 512]⟩
abbrev S512x512 : Shape := ⟨2, ![512, 512]⟩
abbrev S3 : Shape := ⟨1, ![3]⟩
abbrev S2 : Shape := ⟨1, ![2]⟩
abbrev S_ : Shape := ⟨0, ![]⟩
abbrev S1x256x512 : Shape := ⟨3, ![1, 256, 512]⟩
abbrev S1 : Shape := ⟨1, ![1]⟩

abbrev nBuf : Space → Nat
  | .hbm => 2
  | .vmem => 8
  | .smem => 0
  | _ => 0

abbrev bufTy : (tb : Table) → Fin (tcTables nBuf tb) → BufTy
  | .hbm, ⟨0, _⟩ => ⟨S1x1024x2048, .bf16⟩
  | .hbm, ⟨1, _⟩ => ⟨S1024x512, .bf16⟩
  | .local _ .vmem, ⟨0, _⟩ => ⟨S1x1024x2048, .bf16⟩
  | .local _ .vmem, ⟨1, _⟩ => ⟨S1024x512, .bf16⟩
  | .local _ .vmem, ⟨2, _⟩ => ⟨S3x256x512, .bf16⟩
  | .local _ .vmem, ⟨3, _⟩ => ⟨S3x256x512, .bf16⟩
  | .local _ .vmem, ⟨4, _⟩ => ⟨S256x512, .bf16⟩
  | .local _ .vmem, ⟨5, _⟩ => ⟨S256x512, .bf16⟩
  | .local _ .vmem, ⟨6, _⟩ => ⟨S512x512, .bf16⟩
  | .local _ .vmem, ⟨7, _⟩ => ⟨S512x512, .bf16⟩
  | _, _ => ⟨S1x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 2 → Bool
  | ⟨0, _⟩ => false
  | ⟨1, _⟩ => true
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 2 12 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_26 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_25 : BitVec 32 := 8#32
  let v48 : BitVec 32 := Scalar.muli v2 c8_i32_25
  let v49 : BitVec 32 := Scalar.addi c0_i32_26 v48
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_27 : BitVec 32 := 4#32
  let v50 : BitVec 32 := Scalar.muli v5 c4_i32_27
  let v51 : BitVec 32 := Scalar.addi v49 v50
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v12 : BitVec 32 := Scalar.addi v8 c1_i32_3
  let c4_i32_4 : BitVec 32 := 4#32
  let c0_i32 : BitVec 32 := 0#32
  let v13 : BitVec 1 := Scalar.cmpi .eq c4_i32_4 c0_i32
  let c1_i32_5 : BitVec 32 := 1#32
  let v14 : BitVec 32 := Scalar.select v13 c1_i32_5 c4_i32_4
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c1_i32_28 : BitVec 32 := 1#32
  let v52 : BitVec 32 := Scalar.muli v22 c1_i32_28
  let v53 : BitVec 32 := Scalar.addi v51 v52
  v53.toNat
def k0_dev2 (d0 : Dev nD) : Nat :=
  let c0_i32_31 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_30 : BitVec 32 := 8#32
  let v54 : BitVec 32 := Scalar.muli v2 c8_i32_30
  let v55 : BitVec 32 := Scalar.addi c0_i32_31 v54
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_32 : BitVec 32 := 4#32
  let v56 : BitVec 32 := Scalar.muli v5 c4_i32_32
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_9 : BitVec 32 := 2#32
  let v23 : BitVec 32 := Scalar.addi v8 c2_i32_9
  let c4_i32_10 : BitVec 32 := 4#32
  let c0_i32_11 : BitVec 32 := 0#32
  let v24 : BitVec 1 := Scalar.cmpi .eq c4_i32_10 c0_i32_11
  let c1_i32_12 : BitVec 32 := 1#32
  let v25 : BitVec 32 := Scalar.select v24 c1_i32_12 c4_i32_10
  let v26 : BitVec 32 := Scalar.remsi v23 v25
  let c0_i32_14 : BitVec 32 := 0#32
  let v28 : BitVec 1 := Scalar.cmpi .slt v26 c0_i32_14
  let c0_i32_15 : BitVec 32 := 0#32
  let v29 : BitVec 1 := Scalar.cmpi .slt v25 c0_i32_15
  let v30 : BitVec 1 := Scalar.xori v28 v29
  let c0_i32_13 : BitVec 32 := 0#32
  let v27 : BitVec 1 := Scalar.cmpi .ne v26 c0_i32_13
  let v31 : BitVec 1 := Scalar.andi v30 v27
  let v32 : BitVec 32 := Scalar.addi v26 v25
  let v33 : BitVec 32 := Scalar.select v31 v32 v26
  let c1_i32_33 : BitVec 32 := 1#32
  let v58 : BitVec 32 := Scalar.muli v33 c1_i32_33
  let v59 : BitVec 32 := Scalar.addi v57 v58
  v59.toNat
def k0_dev3 (d0 : Dev nD) : Nat :=
  let c0_i32_36 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_35 : BitVec 32 := 8#32
  let v60 : BitVec 32 := Scalar.muli v2 c8_i32_35
  let v61 : BitVec 32 := Scalar.addi c0_i32_36 v60
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_37 : BitVec 32 := 4#32
  let v62 : BitVec 32 := Scalar.muli v5 c4_i32_37
  let v63 : BitVec 32 := Scalar.addi v61 v62
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v34 : BitVec 32 := Scalar.addi v8 c3_i32
  let c4_i32_16 : BitVec 32 := 4#32
  let c0_i32_17 : BitVec 32 := 0#32
  let v35 : BitVec 1 := Scalar.cmpi .eq c4_i32_16 c0_i32_17
  let c1_i32_18 : BitVec 32 := 1#32
  let v36 : BitVec 32 := Scalar.select v35 c1_i32_18 c4_i32_16
  let v37 : BitVec 32 := Scalar.remsi v34 v36
  let c0_i32_20 : BitVec 32 := 0#32
  let v39 : BitVec 1 := Scalar.cmpi .slt v37 c0_i32_20
  let c0_i32_21 : BitVec 32 := 0#32
  let v40 : BitVec 1 := Scalar.cmpi .slt v36 c0_i32_21
  let v41 : BitVec 1 := Scalar.xori v39 v40
  let c0_i32_19 : BitVec 32 := 0#32
  let v38 : BitVec 1 := Scalar.cmpi .ne v37 c0_i32_19
  let v42 : BitVec 1 := Scalar.andi v41 v38
  let v43 : BitVec 32 := Scalar.addi v37 v36
  let v44 : BitVec 32 := Scalar.select v42 v43 v37
  let c1_i32_38 : BitVec 32 := 1#32
  let v64 : BitVec 32 := Scalar.muli v44 c1_i32_38
  let v65 : BitVec 32 := Scalar.addi v63 v64
  v65.toNat
def k0_dev4 (d0 : Dev nD) : Nat :=
  let c0_i32_41 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_40 : BitVec 32 := 8#32
  let v66 : BitVec 32 := Scalar.muli v2 c8_i32_40
  let v67 : BitVec 32 := Scalar.addi c0_i32_41 v66
  let c1_i32_22 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v45 : BitVec 32 := Scalar.subi c1_i32_22 v5
  let c4_i32_42 : BitVec 32 := 4#32
  let v68 : BitVec 32 := Scalar.muli v45 c4_i32_42
  let v69 : BitVec 32 := Scalar.addi v67 v68
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_43 : BitVec 32 := 1#32
  let v70 : BitVec 32 := Scalar.muli v8 c1_i32_43
  let v71 : BitVec 32 := Scalar.addi v69 v70
  v71.toNat
def k0_dev5 (d0 : Dev nD) : Nat :=
  let c0_i32_46 : BitVec 32 := 0#32
  let c1_i32_23 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v46 : BitVec 32 := Scalar.subi c1_i32_23 v2
  let c8_i32_45 : BitVec 32 := 8#32
  let v72 : BitVec 32 := Scalar.muli v46 c8_i32_45
  let v73 : BitVec 32 := Scalar.addi c0_i32_46 v72
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_47 : BitVec 32 := 4#32
  let v74 : BitVec 32 := Scalar.muli v5 c4_i32_47
  let v75 : BitVec 32 := Scalar.addi v73 v74
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v76 : BitVec 32 := Scalar.muli v8 c1_i32_48
  let v77 : BitVec 32 := Scalar.addi v75 v76
  v77.toNat
def k0_off1 (d0 : Dev nD) (c0_i32_50 : BitVec 32) : Fin 3 → Nat :=
  let c0 : Index := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32 : BitVec 32 := 256#32
  let v11 : BitVec 32 := Scalar.muli v10 c256_i32
  let v91 : Index := Scalar.indexCast v11
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_49 : BitVec 32 := 1#32
  let v78 : BitVec 32 := Scalar.addi v8 c1_i32_49
  let v79 : BitVec 32 := Scalar.addi v78 c0_i32_50
  let c4_i32_51 : BitVec 32 := 4#32
  let c0_i32_52 : BitVec 32 := 0#32
  let v80 : BitVec 1 := Scalar.cmpi .eq c4_i32_51 c0_i32_52
  let c1_i32_53 : BitVec 32 := 1#32
  let v81 : BitVec 32 := Scalar.select v80 c1_i32_53 c4_i32_51
  let v82 : BitVec 32 := Scalar.remsi v79 v81
  let c0_i32_55 : BitVec 32 := 0#32
  let v84 : BitVec 1 := Scalar.cmpi .slt v82 c0_i32_55
  let c0_i32_56 : BitVec 32 := 0#32
  let v85 : BitVec 1 := Scalar.cmpi .slt v81 c0_i32_56
  let v86 : BitVec 1 := Scalar.xori v84 v85
  let c0_i32_54 : BitVec 32 := 0#32
  let v83 : BitVec 1 := Scalar.cmpi .ne v82 c0_i32_54
  let v87 : BitVec 1 := Scalar.andi v86 v83
  let v88 : BitVec 32 := Scalar.addi v82 v81
  let v89 : BitVec 32 := Scalar.select v87 v88 v82
  let c512_i32 : BitVec 32 := 512#32
  let v90 : BitVec 32 := Scalar.muli v89 c512_i32
  let v92 : Index := Scalar.indexCast v90
  ![0, v91.toNat, v92.toNat]
def k0_dev6 (d0 : Dev nD) : Nat :=
  let c0_i32_65 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_64 : BitVec 32 := 8#32
  let v98 : BitVec 32 := Scalar.muli v2 c8_i32_64
  let v99 : BitVec 32 := Scalar.addi c0_i32_65 v98
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_66 : BitVec 32 := 4#32
  let v100 : BitVec 32 := Scalar.muli v5 c4_i32_66
  let v101 : BitVec 32 := Scalar.addi v99 v100
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_49 : BitVec 32 := 1#32
  let v78 : BitVec 32 := Scalar.addi v8 c1_i32_49
  let c0_i32_50 : BitVec 32 := 0#32
  let v79 : BitVec 32 := Scalar.addi v78 c0_i32_50
  let c4_i32_51 : BitVec 32 := 4#32
  let c0_i32_52 : BitVec 32 := 0#32
  let v80 : BitVec 1 := Scalar.cmpi .eq c4_i32_51 c0_i32_52
  let c1_i32_53 : BitVec 32 := 1#32
  let v81 : BitVec 32 := Scalar.select v80 c1_i32_53 c4_i32_51
  let v82 : BitVec 32 := Scalar.remsi v79 v81
  let c0_i32_55 : BitVec 32 := 0#32
  let v84 : BitVec 1 := Scalar.cmpi .slt v82 c0_i32_55
  let c0_i32_56 : BitVec 32 := 0#32
  let v85 : BitVec 1 := Scalar.cmpi .slt v81 c0_i32_56
  let v86 : BitVec 1 := Scalar.xori v84 v85
  let c0_i32_54 : BitVec 32 := 0#32
  let v83 : BitVec 1 := Scalar.cmpi .ne v82 c0_i32_54
  let v87 : BitVec 1 := Scalar.andi v86 v83
  let v88 : BitVec 32 := Scalar.addi v82 v81
  let v89 : BitVec 32 := Scalar.select v87 v88 v82
  let c1_i32_67 : BitVec 32 := 1#32
  let v102 : BitVec 32 := Scalar.muli v89 c1_i32_67
  let v103 : BitVec 32 := Scalar.addi v101 v102
  v103.toNat
def k0_dev7 (d0 : Dev nD) : Nat :=
  let c0_i32_89 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_88 : BitVec 32 := 8#32
  let v132 : BitVec 32 := Scalar.muli v2 c8_i32_88
  let v133 : BitVec 32 := Scalar.addi c0_i32_89 v132
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_90 : BitVec 32 := 4#32
  let v134 : BitVec 32 := Scalar.muli v5 c4_i32_90
  let v135 : BitVec 32 := Scalar.addi v133 v134
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_72 : BitVec 32 := 1#32
  let v112 : BitVec 32 := Scalar.addi v8 c1_i32_72
  let c1_i32_73 : BitVec 32 := 1#32
  let v113 : BitVec 32 := Scalar.addi v112 c1_i32_73
  let c4_i32_74 : BitVec 32 := 4#32
  let c0_i32_75 : BitVec 32 := 0#32
  let v114 : BitVec 1 := Scalar.cmpi .eq c4_i32_74 c0_i32_75
  let c1_i32_76 : BitVec 32 := 1#32
  let v115 : BitVec 32 := Scalar.select v114 c1_i32_76 c4_i32_74
  let v116 : BitVec 32 := Scalar.remsi v113 v115
  let c0_i32_78 : BitVec 32 := 0#32
  let v118 : BitVec 1 := Scalar.cmpi .slt v116 c0_i32_78
  let c0_i32_79 : BitVec 32 := 0#32
  let v119 : BitVec 1 := Scalar.cmpi .slt v115 c0_i32_79
  let v120 : BitVec 1 := Scalar.xori v118 v119
  let c0_i32_77 : BitVec 32 := 0#32
  let v117 : BitVec 1 := Scalar.cmpi .ne v116 c0_i32_77
  let v121 : BitVec 1 := Scalar.andi v120 v117
  let v122 : BitVec 32 := Scalar.addi v116 v115
  let v123 : BitVec 32 := Scalar.select v121 v122 v116
  let c1_i32_91 : BitVec 32 := 1#32
  let v136 : BitVec 32 := Scalar.muli v123 c1_i32_91
  let v137 : BitVec 32 := Scalar.addi v135 v136
  v137.toNat
def k0_dev8 (d0 : Dev nD) : Nat :=
  let c0_i32_113 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_112 : BitVec 32 := 8#32
  let v166 : BitVec 32 := Scalar.muli v2 c8_i32_112
  let v167 : BitVec 32 := Scalar.addi c0_i32_113 v166
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_114 : BitVec 32 := 4#32
  let v168 : BitVec 32 := Scalar.muli v5 c4_i32_114
  let v169 : BitVec 32 := Scalar.addi v167 v168
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_96 : BitVec 32 := 1#32
  let v146 : BitVec 32 := Scalar.addi v8 c1_i32_96
  let c2_i32_97 : BitVec 32 := 2#32
  let v147 : BitVec 32 := Scalar.addi v146 c2_i32_97
  let c4_i32_98 : BitVec 32 := 4#32
  let c0_i32_99 : BitVec 32 := 0#32
  let v148 : BitVec 1 := Scalar.cmpi .eq c4_i32_98 c0_i32_99
  let c1_i32_100 : BitVec 32 := 1#32
  let v149 : BitVec 32 := Scalar.select v148 c1_i32_100 c4_i32_98
  let v150 : BitVec 32 := Scalar.remsi v147 v149
  let c0_i32_102 : BitVec 32 := 0#32
  let v152 : BitVec 1 := Scalar.cmpi .slt v150 c0_i32_102
  let c0_i32_103 : BitVec 32 := 0#32
  let v153 : BitVec 1 := Scalar.cmpi .slt v149 c0_i32_103
  let v154 : BitVec 1 := Scalar.xori v152 v153
  let c0_i32_101 : BitVec 32 := 0#32
  let v151 : BitVec 1 := Scalar.cmpi .ne v150 c0_i32_101
  let v155 : BitVec 1 := Scalar.andi v154 v151
  let v156 : BitVec 32 := Scalar.addi v150 v149
  let v157 : BitVec 32 := Scalar.select v155 v156 v150
  let c1_i32_115 : BitVec 32 := 1#32
  let v170 : BitVec 32 := Scalar.muli v157 c1_i32_115
  let v171 : BitVec 32 := Scalar.addi v169 v170
  v171.toNat
def k0_off2 (d0 : Dev nD) : Fin 3 → Nat :=
  let c0_121 : Index := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32 : BitVec 32 := 256#32
  let v11 : BitVec 32 := Scalar.muli v10 c256_i32
  let v181 : Index := Scalar.indexCast v11
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32_120 : BitVec 32 := 512#32
  let v180 : BitVec 32 := Scalar.muli v8 c512_i32_120
  let v182 : Index := Scalar.indexCast v180
  ![0, v181.toNat, v182.toNat]
def k0_dev9 (d0 : Dev nD) : Nat :=
  let c0_i32_173 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_172 : BitVec 32 := 8#32
  let v239 : BitVec 32 := Scalar.muli v2 c8_i32_172
  let v240 : BitVec 32 := Scalar.addi c0_i32_173 v239
  let c1_i32_169 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v238 : BitVec 32 := Scalar.subi c1_i32_169 v5
  let c4_i32_174 : BitVec 32 := 4#32
  let v241 : BitVec 32 := Scalar.muli v238 c4_i32_174
  let v242 : BitVec 32 := Scalar.addi v240 v241
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_175 : BitVec 32 := 1#32
  let v243 : BitVec 32 := Scalar.muli v8 c1_i32_175
  let v244 : BitVec 32 := Scalar.addi v242 v243
  v244.toNat
def k0_off3 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c256_i32_187 : BitVec 32 := 256#32
  let v260 : BitVec 32 := Scalar.muli v5 c256_i32_187
  let v261 : Index := Scalar.indexCast v260
  let c0_188 : Index := 0#32
  ![v261.toNat, 0]
def k0_off4 (d0 : Dev nD) : Fin 2 → Nat :=
  let c1_i32_191 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v266 : BitVec 32 := Scalar.subi c1_i32_191 v5
  let c256_i32_192 : BitVec 32 := 256#32
  let v267 : BitVec 32 := Scalar.muli v266 c256_i32_192
  let v268 : Index := Scalar.indexCast v267
  let c0_193 : Index := 0#32
  ![v268.toNat, 0]
def k0_dev10 (d0 : Dev nD) : Nat :=
  let c0_i32_198 : BitVec 32 := 0#32
  let c1_i32_194 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v272 : BitVec 32 := Scalar.subi c1_i32_194 v2
  let c8_i32_197 : BitVec 32 := 8#32
  let v273 : BitVec 32 := Scalar.muli v272 c8_i32_197
  let v274 : BitVec 32 := Scalar.addi c0_i32_198 v273
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_199 : BitVec 32 := 4#32
  let v275 : BitVec 32 := Scalar.muli v5 c4_i32_199
  let v276 : BitVec 32 := Scalar.addi v274 v275
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_200 : BitVec 32 := 1#32
  let v277 : BitVec 32 := Scalar.muli v8 c1_i32_200
  let v278 : BitVec 32 := Scalar.addi v276 v277
  v278.toNat
def k0_off5 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_212 : BitVec 32 := 2#32
  let v294 : BitVec 32 := Scalar.muli v2 c2_i32_212
  let c256_i32_213 : BitVec 32 := 256#32
  let v295 : BitVec 32 := Scalar.muli v294 c256_i32_213
  let v296 : Index := Scalar.indexCast v295
  let c0_214 : Index := 0#32
  ![v296.toNat, 0]
def k0_off6 (d0 : Dev nD) : Fin 2 → Nat :=
  let c1_i32_217 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v299 : BitVec 32 := Scalar.subi c1_i32_217 v2
  let c2_i32_218 : BitVec 32 := 2#32
  let v300 : BitVec 32 := Scalar.muli v299 c2_i32_218
  let c256_i32_219 : BitVec 32 := 256#32
  let v301 : BitVec 32 := Scalar.muli v300 c256_i32_219
  let v302 : Index := Scalar.indexCast v301
  let c0_220 : Index := 0#32
  ![v302.toNat, 0]
def k0_dev11 (d0 : Dev nD) : Nat :=
  let c0_i32_250_r0 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_249_r0 : BitVec 32 := 8#32
  let v323_r0 : BitVec 32 := Scalar.muli v2 c8_i32_249_r0
  let v324_r0 : BitVec 32 := Scalar.addi c0_i32_250_r0 v323_r0
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_251_r0 : BitVec 32 := 4#32
  let v325_r0 : BitVec 32 := Scalar.muli v5 c4_i32_251_r0
  let v326_r0 : BitVec 32 := Scalar.addi v324_r0 v325_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v12 : BitVec 32 := Scalar.addi v8 c1_i32_3
  let c4_i32_4 : BitVec 32 := 4#32
  let c0_i32 : BitVec 32 := 0#32
  let v13 : BitVec 1 := Scalar.cmpi .eq c4_i32_4 c0_i32
  let c1_i32_5 : BitVec 32 := 1#32
  let v14 : BitVec 32 := Scalar.select v13 c1_i32_5 c4_i32_4
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c1_i32_252_r0 : BitVec 32 := 1#32
  let v327_r0 : BitVec 32 := Scalar.muli v22 c1_i32_252_r0
  let v328_r0 : BitVec 32 := Scalar.addi v326_r0 v327_r0
  v328_r0.toNat
def k0_dev12 (d0 : Dev nD) : Nat :=
  let c0_i32_255_r0 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_254_r0 : BitVec 32 := 8#32
  let v329_r0 : BitVec 32 := Scalar.muli v2 c8_i32_254_r0
  let v330_r0 : BitVec 32 := Scalar.addi c0_i32_255_r0 v329_r0
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_256_r0 : BitVec 32 := 4#32
  let v331_r0 : BitVec 32 := Scalar.muli v5 c4_i32_256_r0
  let v332_r0 : BitVec 32 := Scalar.addi v330_r0 v331_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_9 : BitVec 32 := 2#32
  let v23 : BitVec 32 := Scalar.addi v8 c2_i32_9
  let c4_i32_10 : BitVec 32 := 4#32
  let c0_i32_11 : BitVec 32 := 0#32
  let v24 : BitVec 1 := Scalar.cmpi .eq c4_i32_10 c0_i32_11
  let c1_i32_12 : BitVec 32 := 1#32
  let v25 : BitVec 32 := Scalar.select v24 c1_i32_12 c4_i32_10
  let v26 : BitVec 32 := Scalar.remsi v23 v25
  let c0_i32_14 : BitVec 32 := 0#32
  let v28 : BitVec 1 := Scalar.cmpi .slt v26 c0_i32_14
  let c0_i32_15 : BitVec 32 := 0#32
  let v29 : BitVec 1 := Scalar.cmpi .slt v25 c0_i32_15
  let v30 : BitVec 1 := Scalar.xori v28 v29
  let c0_i32_13 : BitVec 32 := 0#32
  let v27 : BitVec 1 := Scalar.cmpi .ne v26 c0_i32_13
  let v31 : BitVec 1 := Scalar.andi v30 v27
  let v32 : BitVec 32 := Scalar.addi v26 v25
  let v33 : BitVec 32 := Scalar.select v31 v32 v26
  let c1_i32_257_r0 : BitVec 32 := 1#32
  let v333_r0 : BitVec 32 := Scalar.muli v33 c1_i32_257_r0
  let v334_r0 : BitVec 32 := Scalar.addi v332_r0 v333_r0
  v334_r0.toNat
def k0_dev13 (d0 : Dev nD) : Nat :=
  let c0_i32_260_r0 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_259_r0 : BitVec 32 := 8#32
  let v335_r0 : BitVec 32 := Scalar.muli v2 c8_i32_259_r0
  let v336_r0 : BitVec 32 := Scalar.addi c0_i32_260_r0 v335_r0
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_261_r0 : BitVec 32 := 4#32
  let v337_r0 : BitVec 32 := Scalar.muli v5 c4_i32_261_r0
  let v338_r0 : BitVec 32 := Scalar.addi v336_r0 v337_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v34 : BitVec 32 := Scalar.addi v8 c3_i32
  let c4_i32_16 : BitVec 32 := 4#32
  let c0_i32_17 : BitVec 32 := 0#32
  let v35 : BitVec 1 := Scalar.cmpi .eq c4_i32_16 c0_i32_17
  let c1_i32_18 : BitVec 32 := 1#32
  let v36 : BitVec 32 := Scalar.select v35 c1_i32_18 c4_i32_16
  let v37 : BitVec 32 := Scalar.remsi v34 v36
  let c0_i32_20 : BitVec 32 := 0#32
  let v39 : BitVec 1 := Scalar.cmpi .slt v37 c0_i32_20
  let c0_i32_21 : BitVec 32 := 0#32
  let v40 : BitVec 1 := Scalar.cmpi .slt v36 c0_i32_21
  let v41 : BitVec 1 := Scalar.xori v39 v40
  let c0_i32_19 : BitVec 32 := 0#32
  let v38 : BitVec 1 := Scalar.cmpi .ne v37 c0_i32_19
  let v42 : BitVec 1 := Scalar.andi v41 v38
  let v43 : BitVec 32 := Scalar.addi v37 v36
  let v44 : BitVec 32 := Scalar.select v42 v43 v37
  let c1_i32_262_r0 : BitVec 32 := 1#32
  let v339_r0 : BitVec 32 := Scalar.muli v44 c1_i32_262_r0
  let v340_r0 : BitVec 32 := Scalar.addi v338_r0 v339_r0
  v340_r0.toNat
def k0_dev14 (d0 : Dev nD) : Nat :=
  let c0_i32_265_r0 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_264_r0 : BitVec 32 := 8#32
  let v341_r0 : BitVec 32 := Scalar.muli v2 c8_i32_264_r0
  let v342_r0 : BitVec 32 := Scalar.addi c0_i32_265_r0 v341_r0
  let c1_i32_22 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v45 : BitVec 32 := Scalar.subi c1_i32_22 v5
  let c4_i32_266_r0 : BitVec 32 := 4#32
  let v343_r0 : BitVec 32 := Scalar.muli v45 c4_i32_266_r0
  let v344_r0 : BitVec 32 := Scalar.addi v342_r0 v343_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_267_r0 : BitVec 32 := 1#32
  let v345_r0 : BitVec 32 := Scalar.muli v8 c1_i32_267_r0
  let v346_r0 : BitVec 32 := Scalar.addi v344_r0 v345_r0
  v346_r0.toNat
def k0_dev15 (d0 : Dev nD) : Nat :=
  let c0_i32_270_r0 : BitVec 32 := 0#32
  let c1_i32_23 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v46 : BitVec 32 := Scalar.subi c1_i32_23 v2
  let c8_i32_269_r0 : BitVec 32 := 8#32
  let v347_r0 : BitVec 32 := Scalar.muli v46 c8_i32_269_r0
  let v348_r0 : BitVec 32 := Scalar.addi c0_i32_270_r0 v347_r0
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_271_r0 : BitVec 32 := 4#32
  let v349_r0 : BitVec 32 := Scalar.muli v5 c4_i32_271_r0
  let v350_r0 : BitVec 32 := Scalar.addi v348_r0 v349_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_272_r0 : BitVec 32 := 1#32
  let v351_r0 : BitVec 32 := Scalar.muli v8 c1_i32_272_r0
  let v352_r0 : BitVec 32 := Scalar.addi v350_r0 v351_r0
  v352_r0.toNat
abbrev stage0_0 : Fin 1 → Memref sig .tc .vmem S1x1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4x1024x2048 : Shape := ⟨3, ![4, 1024, 2048]⟩
abbrev S_ : Shape := ⟨0, ![]⟩
abbrev S1024x2048 : Shape := ⟨2, ![1024, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4x1024x2048, .bf16⟩
  | .hbm, ⟨1, _⟩ => ⟨S4x1024x2048, .f32⟩
  | .hbm, ⟨2, _⟩ => ⟨S_, .f32⟩
  | .hbm, ⟨3, _⟩ => ⟨S1024x2048, .f32⟩
  | .hbm, ⟨4, _⟩ => ⟨S1024x2048, .bf16⟩
  | _, _ => ⟨S4x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.KernelIdeal.Common.lean ====
/-
The cross-device protocol of the kernel, stated once for a device `c = 8x + 4y + z` of the 2 x 2 x 4 mesh.

Peers: `peer 0`, `peer 1`, `peer 2` are the devices one, two and three steps along `z`, `peer 3` is the `y` mate,
`peer 4` the `x` mate; `peer (back d)` undoes `peer d`.

Semaphores of one device, all used for one round only:
* the barrier: five units, one from each peer. The peer that pays unit `d` hands over the landing buffer that this
  device will write there: slot `d` of its receive buffer (`d < 3`), its `y` landing buffer, its `x` landing buffer;
* three send semaphores: the credit of the send of slot `j`; hands back slot `j` of the send buffer;
* three receive semaphores: the credit of the landing in slot `k`, from `peer k`; hands over slot `k` holding the
  chunk which that device cut out for this one;
* send and receive of the `y` exchange: the partial sums of this device back, those of its `y` mate landed;
* send and receive of the `x` exchange: the half column of this device back, that of its `x` mate landed;
* the exit semaphore: five units, one from each peer, handing over nothing.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring.FamCut
public import Idealize.ShloMosaic.Lib.WritesUnit
public import Idealize.ShloMosaic.Lib.ValueIdxCore
public import Idealize.ShloMosaic.Lib.Tactic

@[expose] public section

noncomputable section

namespace Cert.RunKernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-! ## The resource algebra: the pipeline's copy and the protocol's, its duties named by `Fin 5` -/

/-- The ghost state of the rounds: a duty is one of five numbers. -/
abbrev UB : Type := URounds (GSem nD τ sig) (Fin 5)
/-- The ghost state of the whole proof: the pipeline's and the rounds'. -/
abbrev UU : Type := UR sig nD τ × UB

local notation "𝕄" => MT nD τ sig Unit (Elt F) ℕ UU ℕ

/-- Where the pipeline's ghost state lies in the whole. -/
abbrev EP : Emb (UR sig nD τ) (MT nD τ sig Unit (Elt F) ℕ UU ℕ) := embL
/-- Where the rounds' ghost state lies in the whole. -/
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## The mesh -/

/-- The device `j + 1` steps along `z`. -/
def zp (j : Fin 3) (c : Dev nD) : Dev nD := ⟨4 * (c.val / 4) + (c.val % 4 + 1 + j.val) % 4, by have := c.isLt; unfold nD at *; omega⟩
/-- The `y` mate. -/
def yp (c : Dev nD) : Dev nD := ⟨8 * (c.val / 8) + 4 * ((c.val / 4 + 1) % 2) + c.val % 4, by have := c.isLt; unfold nD at *; omega⟩
/-- The `x` mate. -/
def xp (c : Dev nD) : Dev nD := ⟨(c.val + 8) % 16, Nat.mod_lt _ (by decide)⟩

/-- The five peers of a device, in the order in which the kernel signals them. -/
def peer (d : Fin 5) (c : Dev nD) : Dev nD := match d with | 0 => zp 0 c | 1 => zp 1 c | 2 => zp 2 c | 3 => yp c | 4 => xp c
/-- The number under which a peer reaches back. -/
def back (d : Fin 5) : Fin 5 := match d with | 0 => 2 | 1 => 1 | 2 => 0 | 3 => 3 | 4 => 4
/-- `back` on the `z` peers. -/
def op (j : Fin 3) : Fin 3 := match j with | 0 => 2 | 1 => 1 | 2 => 0

/-- Reversing a direction twice gives it back. -/
theorem back_back (d : Fin 5) : back (back d) = d := by revert d; decide
/-- Reversing a step along `z` twice gives it back. -/
theorem op_op (j : Fin 3) : op (op j) = j := by revert j; decide
/-- From a peer, the reverse direction leads back. -/
theorem peer_back (d : Fin 5) (c : Dev nD) : peer (back d) (peer d c) = c := by revert d c; decide
/-- A device is the peer of the device that lies in the reverse direction. -/
theorem peer_back' (d : Fin 5) (c : Dev nD) : peer d (peer (back d) c) = c := by revert d c; decide
/-- From a `z` neighbour, the reverse step leads back. -/
theorem zp_op (j : Fin 3) (c : Dev nD) : zp (op j) (zp j c) = c := by revert j c; decide
/-- A device is the `z` neighbour of the device that lies one reverse step away. -/
theorem zp_op' (j : Fin 3) (c : Dev nD) : zp j (zp (op j) c) = c := by revert j c; decide
/-- The `y` neighbour of the `y` neighbour is the device itself. -/
theorem yp_yp (c : Dev nD) : yp (yp c) = c := by revert c; decide
/-- The `x` neighbour of the `x` neighbour is the device itself. -/
theorem xp_xp (c : Dev nD) : xp (xp c) = c := by revert c; decide
/-- `b` is the peer of `a` exactly if `a` is the peer of `b` in the reverse direction. -/
theorem peer_eq_iff (d : Fin 5) (a b : Dev nD) : peer d a = b ↔ a = peer (back d) b := by revert d a b; decide

/-- `peer d` as a renaming of the devices. -/
def peerE (d : Fin 5) : Dev nD ≃ Dev nD := ⟨peer d, peer (back d), peer_back d, peer_back' d⟩

/-- The kernel's device chains name the peers. -/
theorem dev1_eq (c : Dev nD) : (⟨k0_dev1 c, k0_dev1_lt c⟩ : Dev nD) = peer 0 c := by revert c; decide
/-- The device numbers that the program computes for its signals and copies are the peers' numbers; one theorem for each of them. -/
theorem dev2_eq (c : Dev nD) : (⟨k0_dev2 c, k0_dev2_lt c⟩ : Dev nD) = peer 1 c := by revert c; decide
theorem dev3_eq (c : Dev nD) : (⟨k0_dev3 c, k0_dev3_lt c⟩ : Dev nD) = peer 2 c := by revert c; decide
theorem dev4_eq (c : Dev nD) : (⟨k0_dev4 c, k0_dev4_lt c⟩ : Dev nD) = peer 3 c := by revert c; decide
theorem dev5_eq (c : Dev nD) : (⟨k0_dev5 c, k0_dev5_lt c⟩ : Dev nD) = peer 4 c := by revert c; decide
theorem dev6_eq (c : Dev nD) : (⟨k0_dev6 c, k0_dev6_lt c⟩ : Dev nD) = zp 0 c := by revert c; decide
theorem dev7_eq (c : Dev nD) : (⟨k0_dev7 c, k0_dev7_lt c⟩ : Dev nD) = zp 1 c := by revert c; decide
theorem dev8_eq (c : Dev nD) : (⟨k0_dev8 c, k0_dev8_lt c⟩ : Dev nD) = zp 2 c := by revert c; decide
theorem dev9_eq (c : Dev nD) : (⟨k0_dev9 c, k0_dev9_lt c⟩ : Dev nD) = yp c := by revert c; decide
theorem dev10_eq (c : Dev nD) : (⟨k0_dev10 c, k0_dev10_lt c⟩ : Dev nD) = xp c := by revert c; decide
theorem dev11_eq (c : Dev nD) : (⟨k0_dev11 c, k0_dev11_lt c⟩ : Dev nD) = peer 0 c := by revert c; decide
theorem dev12_eq (c : Dev nD) : (⟨k0_dev12 c, k0_dev12_lt c⟩ : Dev nD) = peer 1 c := by revert c; decide
theorem dev13_eq (c : Dev nD) : (⟨k0_dev13 c, k0_dev13_lt c⟩ : Dev nD) = peer 2 c := by revert c; decide
theorem dev14_eq (c : Dev nD) : (⟨k0_dev14 c, k0_dev14_lt c⟩ : Dev nD) = peer 3 c := by revert c; decide
theorem dev15_eq (c : Dev nD) : (⟨k0_dev15 c, k0_dev15_lt c⟩ : Dev nD) = peer 4 c := by revert c; decide

/-! ## The buffers -/

/-- The staged argument, the staged result and the six scratch arrays, whole: sends, landings along `z`, the sum, the landing along `y`, the half column, the landing along `x`. -/
abbrev inM : Memref sig .tc .vmem S1x1024x2048 .bf16 := Memref.whole cc0_stg0_0
abbrev oM : Memref sig .tc .vmem S1024x512 .bf16 := Memref.whole cc0_stg1_0
abbrev sW : Memref sig .tc .vmem S3x256x512 .bf16 := Memref.whole cc0_scratch0
abbrev rW : Memref sig .tc .vmem S3x256x512 .bf16 := Memref.whole cc0_scratch1
abbrev aM : Memref sig .tc .vmem S256x512 .bf16 := Memref.whole cc0_scratch2
abbrev yM : Memref sig .tc .vmem S256x512 .bf16 := Memref.whole cc0_scratch3
abbrev hM : Memref sig .tc .vmem S512x512 .bf16 := Memref.whole cc0_scratch4
abbrev xM : Memref sig .tc .vmem S512x512 .bf16 := Memref.whole cc0_scratch5

/-- Slot `j` lies inside its array of three slots. -/
theorem inbS (j : Fin 3) : ∀ a, (![j.val, 0, 0] : Fin 3 → Nat) a + S1x256x512.size a ≤ S3x256x512.size a := by revert j; decide
/-- The rectangle of slot `j` of a three-slot buffer. -/
abbrev rS (j : Fin 3) : Rect S3x256x512 := Rect.unit (s := S3x256x512) ![j.val, 0, 0] S1x256x512.size (inbS j)
/-- Slot `j` of the send buffer and of the receive buffer, as the transfers name them. -/
abbrev sM (j : Fin 3) : Memref sig .tc .vmem S256x512 .bf16 := (sW.slice (rS j) (fun _ => rfl)).squeeze S256x512 squeezes_S1x256x512_S256x512
/-- Slot `j` of the landing array, as a matrix. -/
abbrev rM (j : Fin 3) : Memref sig .tc .vmem S256x512 .bf16 := (rW.slice (rS j) (fun _ => rfl)).squeeze S256x512 squeezes_S1x256x512_S256x512

/-- The elements of slot `j`. -/
abbrev slotSet (M : Memref sig .tc .vmem S3x256x512 .bf16) (j : Fin 3) : Finset M.view.ty.Idx := (M.access (rS j)).set

/-- Slot `j` of a three-slot buffer of device `c`, at any contents; -/
def slotAny (M : Memref sig .tc .vmem S3x256x512 .bf16) (c : Dev nD) (j : Fin 3) : sProp 𝕄 :=
  iprop(∃ f : Buf (Elt F) (M.view.loc (c : Thread nD τ)), M.view.loc (c : Thread nD τ) ↦[slotSet M j]{fullShare} f)
/-- and holding `V`. -/
def slotAt (M : Memref sig .tc .vmem S3x256x512 .bf16) (c : Dev nD) (j : Fin 3) (V : S1x256x512.Idx → Elt F .bf16) : sProp 𝕄 :=
  iprop(∃ f : Buf (Elt F) (M.view.loc (c : Thread nD τ)), ⌜(M.access (rS j)).read (Elt F) f = V⌝ ∗ (M.view.loc (c : Thread nD τ) ↦[slotSet M j]{fullShare} f))

/-- A whole buffer of device `c` holding `f`; -/
abbrev bufAt (b : Ref sig .tc) (c : Dev nD) (f : Buf (Elt F) ((c : Thread nD τ).loc b)) : sProp 𝕄 := ((c : Thread nD τ).loc b) ↦{fullShare} f
/-- and at any contents. -/
abbrev bufAny (b : Ref sig .tc) (c : Dev nD) : sProp 𝕄 := iprop(∃ f, bufAt b c f)

/-- A slot with any contents may be a payload. -/
instance slotAny_storable (M) (c : Dev nD) (j) : BI.Storable (upEmb : UEmb _ 𝕄) (slotAny (F := F) M c j) := by unfold slotAny; infer_instance
/-- A slot with known contents may be a payload. -/
instance slotAt_storable (M) (c : Dev nD) (j) (V) : BI.Storable (upEmb : UEmb _ 𝕄) (slotAt (F := F) M c j V) := by unfold slotAt; infer_instance

/-! ## The contents -/

/-- The block of `x` that device `c` holds, as staged. -/
def xstg (c : Dev nD) : (cc0_stg0_0 : Ref sig .tc).ty.Contents (Elt F) :=
  (win0_0.blk (0 : Fin 1)).view.read (Elt F) ((s₀ m ρ).mem ((c : Thread nD τ).loc main_arg0))

/-- The chunk of its own block that device `c` cuts out for `zp j c`; -/
def cutV (c : Dev nD) (j : Fin 3) : Vec F S1x256x512 .bf16 :=
  inM.view.readAt (Elt F) (Rect.unit (s := S1x1024x2048) (k0_off1 c (BitVec.ofNat 32 j.val)) S1x256x512.size (k0_off1_inb c j)).toLoadRect (xstg m ρ c)
/-- and the one it keeps. -/
def ownV (c : Dev nD) : Vec F S1x256x512 .bf16 :=
  inM.view.readAt (Elt F) (Rect.unit (s := S1x1024x2048) (k0_off2 c) S1x256x512.size (k0_off2_inb c)).toLoadRect (xstg m ρ c)
/-- Slot `j` of the send buffer. -/
def sentV (c : Dev nD) (j : Fin 3) : Vec F S1x256x512 .bf16 := k0_pay1 (cutV m ρ c j)
/-- Slot `k` of the receive buffer: what `zp k c` sent. -/
def recvV (c : Dev nD) (k : Fin 3) : Vec F S1x256x512 .bf16 := sentV m ρ (zp k c) (op k)
/-- The sum over `z`. -/
def accV (c : Dev nD) : Vec F S256x512 .bf16 := k0_pay6 (k0_pay5 (k0_pay4 (ownV m ρ c)) (recvV m ρ c 0)) (recvV m ρ c 1) (recvV m ρ c 2)

/-- Two blocks of rows stacked, `A` above `B` when `t = 0` and below otherwise. -/
def stack {N : ℕ} (n : ℕ) (hn : 0 < n) (t : ℕ) (A B : (⟨2, ![n, 512]⟩ : Shape).Idx → Elt F .bf16) : (⟨2, ![N, 512]⟩ : Shape).Idx → Elt F .bf16 := fun i =>
  (if (i 0).val / n = t then A else B) (ix2 ⟨(i 0).val % n, Nat.mod_lt _ hn⟩ (i 1))

/-- The half column after the `y` exchange, -/
def halfV (c : Dev nD) : Vec F S512x512 .bf16 := stack 256 (by decide) ((c.val / 4) % 2) (accV m ρ c) (accV m ρ (yp c))
/-- and the result after the `x` exchange. -/
def outV (c : Dev nD) : Vec F S1024x512 .bf16 := stack 512 (by decide) (c.val / 8) (halfV m ρ c) (halfV m ρ (xp c))

/-! ## The cells -/

/-- The twelve semaphores of a device: barrier, exit, three sends, three receives, two exchange sends, two exchange receives. -/
abbrev csem (k : Fin 12) : SemLoc sig := match k with
  | 0 => .reg 0 | 1 => .reg 1 | 2 => .dma 2 | 3 => .dma 3 | 4 => .dma 4 | 5 => .dma 5 | 6 => .dma 6 | 7 => .dma 7 | 8 => .dma 8 | 9 => .dma 9 | 10 => .dma 10 | 11 => .dma 11
/-- Cell `k` of device `c`. -/
abbrev cl (ck : Dev nD × Fin 12) : GSem nD τ sig := ((ck.1 : Thread nD τ), csem ck.2)

/-- The cells of the send of slot `j` and of the landing in slot `k`. -/
abbrev dS (j : Fin 3) : Fin 12 := match j with | 0 => 2 | 1 => 3 | 2 => 4
/-- The number of the receive cell of landing slot `k`. -/
abbrev dR (k : Fin 3) : Fin 12 := match k with | 0 => 5 | 1 => 6 | 2 => 7

/-- The credit of a quarter block and of a half column. -/
abbrev N1 : ℕ := aM.view.dmaCredit
/-- The credit of a copy of a half column. -/
abbrev N2 : ℕ := hM.view.dmaCredit
/-- A copy of a chunk has positive credit. -/
theorem N1_pos : 0 < N1 := View.dmaCredit_pos _ (by decide)
/-- So has a copy of a half column. -/
theorem N2_pos : 0 < N2 := View.dmaCredit_pos _ (by decide)

/-! ## The schedule -/

/-- What the payer of unit `d` of device `c`'s barrier, `peer (back d) c`, hands over. -/
def barPay (c : Dev nD) (d : Fin 5) : sProp 𝕄 := match d with
  | 0 => slotAny rW (zp 2 c) 0 | 1 => slotAny rW (zp 1 c) 1 | 2 => slotAny rW (zp 0 c) 2 | 3 => bufAny cc0_scratch3 (yp c) | 4 => bufAny cc0_scratch5 (xp c)

/-- What a completed transfer on semaphore `s` of device `c` hands over. -/
def dmaPay (c : Dev nD) (s : DmaSem sig) : sProp 𝕄 := match s with
  | 2 => slotAt sW c 0 (sentV m ρ c 0) | 3 => slotAt sW c 1 (sentV m ρ c 1) | 4 => slotAt sW c 2 (sentV m ρ c 2)
  | 5 => slotAt rW c 0 (recvV m ρ c 0) | 6 => slotAt rW c 1 (recvV m ρ c 1) | 7 => slotAt rW c 2 (recvV m ρ c 2)
  | 8 => bufAt cc0_scratch2 c (accV m ρ c) | 9 => bufAt cc0_scratch4 c (halfV m ρ c)
  | 10 => bufAt cc0_scratch3 c (accV m ρ (yp c)) | 11 => bufAt cc0_scratch5 c (halfV m ρ (xp c))
  | _ => iprop(emp)

/-- The duties on a semaphore: five on the two that the peers signal, none on the pipeline's, one on each that a copy credits. -/
def dutiesOf (sm : SemLoc sig) : Finset (Fin 5) := match sm with | .reg _ => Finset.univ | .dma s => if s.val < 2 then ∅ else {0}
/-- What one duty on a semaphore pays. -/
def amountOf (sm : SemLoc sig) : ℕ := match sm with | .reg _ => 1 | .dma s => if s = 9 ∨ s = 11 then N2 else N1
/-- What one duty on a semaphore hands over. -/
def payOf (c : Dev nD) (sm : SemLoc sig) (d : Fin 5) : sProp 𝕄 := match sm with | .reg s => if s = 0 then barPay c d else iprop(emp) | .dma s => dmaPay m ρ c s

/-- Every duty pays something. -/
theorem amountOf_pos (sm : SemLoc sig) : 0 < amountOf sm := by
  unfold amountOf
  split
  · exact Nat.one_pos
  · split
    · exact N2_pos
    · exact N1_pos

/-- One round at every cell. -/
def rd : Rounds.Schedule (GSem nD τ sig) (Fin 5) 𝕄 where
  duties g r := if r = 0 ∧ g.1.2 = .tc then dutiesOf g.2 else ∅
  unitless _ := False
  amount g _ _ := amountOf g.2
  payload g _ d := payOf m ρ g.1.1 g.2 d
  amount_pos g _ _ _ := amountOf_pos g.2

/-- What a barrier signal hands over may be a payload. -/
instance barPay_storable (c : Dev nD) (d : Fin 5) : BI.Storable (upEmb : UEmb _ 𝕄) (barPay (F := F) c d) := by
  unfold barPay; split <;> infer_instance
/-- What a copy hands over may be a payload. -/
instance dmaPay_storable (c : Dev nD) (s) : BI.Storable (upEmb : UEmb _ 𝕄) (dmaPay (F := F) m ρ c s) := by
  unfold dmaPay; split <;> infer_instance
/-- So may every payload of the schedule. -/
instance rd_payload_storable (g : GSem nD τ sig) (r : ℕ) (d : Fin 5) : BI.Storable (upEmb : UEmb _ 𝕄) ((rd (F := F) m ρ).payload g r d) := by
  show BI.Storable upEmb (payOf m ρ g.1.1 g.2 d)
  unfold payOf
  split
  · split <;> infer_instance
  · infer_instance

section Sched
variable (c : Dev nD)

/-- The duties of the one round of a cell. -/
theorem duties_cl (k : Fin 12) : (rd (F := F) m ρ).duties (cl (c, k)) 0 = dutiesOf (csem k) := by
  dsimp only [rd]; exact if_pos ⟨rfl, rfl⟩
/-- There is no further round. -/
theorem duties_later (g : GSem nD τ sig) : ∀ r, 1 ≤ r → (rd (F := F) m ρ).duties g r = ∅ :=
  fun r hr => by dsimp only [rd]; exact if_neg fun h => by omega
/-- The amounts of a cell's round. -/
theorem amount_cl (k : Fin 12) (d : Fin 5) : (rd (F := F) m ρ).amount (cl (c, k)) 0 d = amountOf (csem k) := rfl
/-- The payloads of a cell's round. -/
theorem payload_cl (k : Fin 12) (d : Fin 5) : (rd (F := F) m ρ).payload (cl (c, k)) 0 d = payOf m ρ c (csem k) d := rfl
/-- What a cell's round adds up to. -/
theorem expect_cl (k : Fin 12) : (rd (F := F) m ρ).expect (cl (c, k)) 0 = (dutiesOf (csem k)).card * amountOf (csem k) := by
  unfold Schedule.expect Schedule.amountOf
  rw [duties_cl, Finset.sum_congr rfl fun d _ => amount_cl m ρ c k d, Finset.sum_const, smul_eq_mul]

/-- The barrier's round: the five landing buffers. -/
theorem rest_bar : bigSep ((rd (F := F) m ρ).duties (cl (c, 0)) 0 \ ∅) (fun d => (rd (F := F) m ρ).payload (cl (c, 0)) 0 d)
    = iprop(slotAny rW (zp 2 c) 0 ∗ slotAny rW (zp 1 c) 1 ∗ slotAny rW (zp 0 c) 2 ∗ bufAny cc0_scratch3 (yp c) ∗ bufAny cc0_scratch5 (xp c)) := by
  rw [Finset.sdiff_empty, duties_cl]
  show bigSep (Finset.univ : Finset (Fin 5)) _ = _
  rw [bigSep_univ_eq_bigSepL [0, 1, 2, 3, 4] (by decide) (by decide)]
  rfl
/-- The round of a transfer's cell. -/
theorem rest_dma (k : Fin 12) (s : DmaSem sig) (h : csem k = .dma s) (hs : ¬ s.val < 2) :
    bigSep ((rd (F := F) m ρ).duties (cl (c, k)) 0 \ ∅) (fun d => (rd (F := F) m ρ).payload (cl (c, k)) 0 d) = dmaPay m ρ c s := by
  rw [Finset.sdiff_empty, duties_cl, h]
  show bigSep (if s.val < 2 then ∅ else {0}) _ = _
  rw [if_neg hs, bigSep_singleton]
  show payOf m ρ c (csem k) 0 = _
  rw [h]; rfl

end Sched

/-! ## What a device owes, and the levels -/

/-- What is owed along a list of cells, the head of the list paid first. -/
def owedL : List ((Dev nD × Fin 12) × ℕ) → CellTallies nD τ sig Unit
  | [] => 0
  | p :: l => owedL l + tallyAt (cl p.1) () p.2

/-- Device `c`'s debts in the order of payment: the barrier units, the landings, the exchanges, the exit units. -/
def debts (c : Dev nD) : List ((Dev nD × Fin 12) × ℕ) :=
  [((peer 0 c, 0), 1), ((peer 1 c, 0), 1), ((peer 2 c, 0), 1), ((peer 3 c, 0), 1), ((peer 4 c, 0), 1),
   ((zp 0 c, 7), N1), ((zp 1 c, 6), N1), ((zp 2 c, 5), N1), ((yp c, 10), N1), ((xp c, 11), N2),
   ((peer 0 c, 1), 1), ((peer 1 c, 1), 1), ((peer 2 c, 1), 1), ((peer 3 c, 1), 1), ((peer 4 c, 1), 1)]
/-- What a device owes at the start. -/
def O₀ (c : Dev nD) : CellTallies nD τ sig Unit := owedL (debts c)

/-- The cells that have a level: those of the TensorCores. -/
def L (g : GSem nD τ sig) : Finset Unit := if g.1.2 = .tc then {()} else ∅
/-- Barrier 1, landings 2, `y` landing 3, `x` landing 4, exit 5, everything else 0. -/
def lvOf (sm : SemLoc sig) : ℕ := match sm with
  | .reg s => if s = 0 then 1 else 5
  | .dma s => if s.val < 5 then 0 else if s.val < 8 then 2 else if s.val < 10 then 0 else if s.val < 11 then 3 else 4
/-- The level of a cell, by which waits are ordered. -/
def lv (g : GSem nD τ sig) (_ : Unit) : ℕ := lvOf g.2

/-- A cell of another core has no level. -/
theorem L_of_ne (g : GSem nD τ sig) (h : g.1.2 ≠ .tc) : L g = ∅ := if_neg h
/-- A cell of a TensorCore has one. -/
theorem L_tc (c : Dev nD) (sm : SemLoc sig) : L ((c : Thread nD τ), sm) = {()} := if_pos rfl

/-- A list of debts owes only on the cells it names. -/
theorem owedL_pos {l : List ((Dev nD × Fin 12) × ℕ)} {g : GSem nD τ sig} {u : Unit} (h : 0 < owedL l g u) : ∃ p ∈ l, g = cl p.1 := by
  induction l with
  | nil => exact absurd h (Nat.lt_irrefl 0)
  | cons p l ih =>
    rw [owedL, Pi.add_apply, Finsupp.add_apply, tallyAt_apply] at h
    by_cases hg : g = cl p.1 ∧ u = ()
    · exact ⟨p, List.mem_cons_self, hg.1⟩
    · rw [if_neg hg, Nat.add_zero] at h
      obtain ⟨p', hp, e⟩ := ih h
      exact ⟨p', List.mem_cons_of_mem _ hp, e⟩

/-- A device may wait on a cell that lies below everything it owes. -/
theorem mayWait (c : Dev nD) (sm : SemLoc sig) (l : List ((Dev nD × Fin 12) × ℕ)) (h : ∀ p ∈ l.map (fun p => lvOf (csem p.1.2)), lvOf sm < p) :
    (levAts L lv : sProp 𝕄) ⊢ MayWait (c : Thread nD τ) sm () (owedL l) :=
  MayOwe.of_cut (L := L) (lev := lv) (lvOf sm) (fun p hp => by rw [Finset.mem_singleton.mp hp, L_tc]; exact Finset.mem_singleton_self _)
    (fun g u hg => by obtain ⟨p, -, rfl⟩ := owedL_pos hg; rw [L_tc]; exact Finset.mem_singleton_self _)
    (fun p hp => by rw [Finset.mem_singleton.mp hp]; exact le_rfl)
    (fun g u hg => by obtain ⟨p, hp, rfl⟩ := owedL_pos hg; exact h _ (List.mem_map_of_mem hp))

end Cert.RunKernelIdeal

end
-- ==== Proof.KernelIdeal.Steps.lean ====
/-
One rule per kind of effect of the kernel, over the protocol of `Common`: what each effect takes and gives back.
-/
module

public import proofs.«01_k».proof.Proof.KernelIdeal.Common

@[expose] public section

noncomputable section

namespace Cert.RunKernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 12 → ℕ)

/-- No loop needs a variant. -/
abbrev 𝒱₀ : Variants := Variants.none

/-- The weakest precondition of a piece of the kernel's body on device `c`. -/
abbrev Wp (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Every cell follows the schedule, and every cell has reached its one round. -/
def Recs : sProp 𝕄 :=
  iprop(bigSep Finset.univ (fun ck : Dev nD × Fin 12 => cellInv ER (rd m ρ) (K ck) (cl ck)) ∗ bigSep Finset.univ (fun ck : Dev nD × Fin 12 => reached ER (cl ck) 0))

/-- The records may be used again and again. -/
instance Recs_persistent : BI.Persistent (Recs (F := F) m ρ K) := by unfold Recs; infer_instance

/-- One cell's record holds its invariant. -/
theorem inv_at (ck : Dev nD × Fin 12) :
    (bigSep Finset.univ fun ck : Dev nD × Fin 12 => (cellInv ER (rd m ρ) (K ck) (cl ck) : sProp 𝕄)) ⊢ cellInv ER (rd m ρ) (K ck) (cl ck) :=
  bigSep_elim (Finset.mem_univ ck)
/-- One cell's record says that its first round is reached. -/
theorem reached_at (ck : Dev nD × Fin 12) :
    (bigSep Finset.univ fun ck : Dev nD × Fin 12 => (reached ER (cl ck) 0 : sProp 𝕄)) ⊢ reached ER (cl ck) 0 :=
  bigSep_elim (Finset.mem_univ ck)
/-- The records hold every cell's invariant. -/
theorem Recs_inv (ck : Dev nD × Fin 12) : Recs m ρ K ⊢ cellInv ER (rd m ρ) (K ck) (cl ck) := by
  unfold Recs; iintro ⟨H, -⟩
  iapply (inv_at m ρ K ck); iexact H
/-- The records say of every cell that its first round is reached. -/
theorem Recs_reached (ck : Dev nD × Fin 12) : (Recs m ρ K : sProp 𝕄) ⊢ reached ER (cl ck) 0 := by
  unfold Recs; iintro ⟨-, H⟩
  iapply (reached_at (F := F) ck); iexact H

/-- What the device owes, whatever waits it has recorded. -/
def Owe (c : Dev nD) (l : List ((Dev nD × Fin 12) × ℕ)) : sProp 𝕄 := iprop(∃ W, owes (c : Thread nD τ) (owedL l) W)

/-! ## Signals and waits -/

/-- A unit signalled to peer `d`'s barrier or exit semaphore. -/
theorem step_signal (c n : Dev nD) (d : Fin 5) (k : Fin 12) (s : Sem sig) (hk : csem k = .reg s) (hn : n = peer d c)
    (l : List ((Dev nD × Fin 12) × ℕ)) {α : Type} {Q : α → sProp 𝕄} {kk : PUnit → Prog (TpuEff nD τ sig (Elt F) Λ₀ .tc) α} :
    iprop(Recs m ρ K ∗ Owe c (((peer d c, k), 1) :: l) ∗ dutyTok ER (cl (peer d c, k)) 0 d ∗ payOf m ρ (peer d c) (csem k) d)
      ⊢ iprop((Owe c l -∗ Wp c (kk ⟨⟩) Q) -∗ Wp c (.op (.semSignal ((n, .tc) : Thread nD τ) s (1#32 : BitVec 32).toInt) kk) Q) := by
  subst hn
  iintro ⟨#HR, HO, Ht, Hp⟩ Hk
  unfold Owe
  icases HO with ⟨%W, HO⟩
  have ecl : cl (peer d c, k) = (((peer d c : Dev nD) : Thread nD τ), SemLoc.reg s) := by show (_, csem k) = _; rw [hk]
  iapply (Rounds.wp_signal 𝒱₀ ER (rd m ρ) (c : Thread nD τ) none (dst := (peer d c : Thread nD τ)) (κ := K (peer d c, k))
      (r := 0) (d := d) (by rw [← ecl, duties_cl, hk]; exact Finset.mem_univ _)
      (k' := 1) (by rw [← ecl, amount_cl, hk]; rfl) () (owedL l)
      (by rw [← ecl]; first | done | rfl) (W := W)) $$ [HO Ht Hp]
  · isplitr; · rw [← ecl]; iapply (Recs_inv m ρ K (peer d c, k)); iexact HR
    isplitl [HO]; · iexact HO
    isplitl [Ht]; · rw [← ecl]; iexact Ht
    isplitl [Hp]; · rw [← ecl, payload_cl]; iexact Hp
    rw [← ecl]; iapply (Recs_reached m ρ K (peer d c, k)); iexact HR
  iintro HO
  iapply Hk; iexists W; iexact HO

/-- A wait for a cell's whole round, below everything owed. -/
theorem step_wait (c : Dev nD) (k : Fin 12) (sm : SemLoc sig) (hk : csem k = sm) {w : TpuEff nD τ sig (Elt F) Λ₀ .tc PUnit} (n : ℕ)
    (hw : ∀ Kt : PUnit → sProp 𝕄, wpE (defs₀ (F := F)) 𝒱₀ (c : Thread nD τ) none Set.univ w Kt = waitSpec (c : Thread nD τ) Set.univ sm n Kt)
    (hn : n = (dutiesOf (csem k)).card * amountOf (csem k)) (l : List ((Dev nD × Fin 12) × ℕ))
    (hl : ∀ p ∈ l.map (fun p => lvOf (csem p.1.2)), lvOf (csem k) < p)
    {α : Type} {Q : α → sProp 𝕄} {kk : PUnit → Prog (TpuEff nD τ sig (Elt F) Λ₀ .tc) α} :
    iprop(Recs m ρ K ∗ levAts L lv ∗ cred (tallyAt (cl (c, k)) () n) ∗ Owe c l ∗ atPos ER (cl (c, k)) 0 ∅ 0)
      ⊢ iprop(((Owe c l ∗ atPos ER (cl (c, k)) 1 ∅ 0 ∗ bigSep ((rd m ρ).duties (cl (c, k)) 0 \ ∅) (fun d => (rd m ρ).payload (cl (c, k)) 0 d)) -∗ Wp c (kk ⟨⟩) Q)
          -∗ Wp c (.op w kk) Q) := by
  subst hk
  iintro ⟨#HR, #Hlev, Hc, HO, Hat⟩ Hk
  unfold Owe
  icases HO with ⟨%W, HO⟩
  iapply (Rounds.wp_wait_rest_token 𝒱₀ ER (rd m ρ) (c : Thread nD τ) none (κ := K (c, k)) hw (Set.mem_univ _) () (O := owedL l) (W := W)
      (R := 0) (m := 0) (T := ∅) (by rw [Nat.zero_add]; exact hn.trans (expect_cl m ρ c k).symm)) $$ [Hc HO Hat]
  · isplitr; · iapply (Recs_inv m ρ K (c, k)); iexact HR
    isplitl [Hc]; · iexact Hc
    isplitl [HO]; · iexact HO
    isplitr; · iapply (mayWait c (csem k) l hl); iexact Hlev
    iexact Hat
  iintro ⟨HO, Hat, -, Hpay⟩
  iapply Hk
  isplitl [HO]; · iexists _; iexact HO
  isplitl [Hat]; · iexact Hat
  iexact Hpay

/-- A wait for a transfer: the payload of its cell. -/
theorem step_waitDma (c : Dev nD) (k : Fin 12) (s : DmaSem sig) (hk : csem k = .dma s) (hs : ¬ s.val < 2) {sp sp' : Space} {sh sh' : Shape} {e e' : EltTy}
    {src : Memref sig .tc sp' sh' e'} {dst : Memref sig .tc sp sh e} {hsrc : src.view.WordExact} {hdst : dst.view.WordExact} (n : ℕ)
    (hd : dst.view.dmaCredit = n) (hn : n = amountOf (csem k)) (l : List ((Dev nD × Fin 12) × ℕ))
    (hl : ∀ p ∈ l.map (fun p => lvOf (csem p.1.2)), lvOf (csem k) < p)
    {α : Type} {Q : α → sProp 𝕄} {kk : PUnit → Prog (TpuEff nD τ sig (Elt F) Λ₀ .tc) α} :
    iprop(Recs m ρ K ∗ levAts L lv ∗ cred (tallyAt (cl (c, k)) () n) ∗ Owe c l ∗ atPos ER (cl (c, k)) 0 ∅ 0)
      ⊢ iprop(((Owe c l ∗ atPos ER (cl (c, k)) 1 ∅ 0 ∗ dmaPay m ρ c s) -∗ Wp c (kk ⟨⟩) Q)
          -∗ Wp c (.op (.waitDma2 s src dst hsrc hdst) kk) Q) := by
  subst hd
  rw [← rest_dma m ρ c k s hk hs]
  exact step_wait m ρ K c k (.dma s) hk _ (wpE_waitDma2_eq 𝒱₀ (c : Thread nD τ) none Set.univ)
    (by rw [hk, dutiesOf, if_neg hs, Finset.card_singleton, Nat.one_mul, ← hk]; exact hn) l hl

/-! ## Loads and stores -/

/-- A load from a whole buffer. -/
theorem step_load (c : Dev nD) {sh : Shape} {e : EltTy} (M : Memref sig .tc .vmem sh e) (f : Buf (Elt F) (M.view.loc (c : Thread nD τ))) {r : LoadRect sh}
    {hl : M.view.LoadsAt r} {α : Type} {Q : α → sProp 𝕄} {kk : (r.shape.Idx → Elt F e) → Prog (TpuEff nD τ sig (Elt F) Λ₀ .tc) α} :
    ((M.view.loc (c : Thread nD τ) ↦{fullShare} f : sProp 𝕄)) ⊢ iprop(((M.view.loc (c : Thread nD τ) ↦{fullShare} f) -∗ Wp c (kk (M.view.readAt (Elt F) r f)) Q)
      -∗ Wp c (.op (.load M r hl) kk) Q) :=
  wp_load 𝒱₀ (c : Thread nD τ) none Set.univ (m := M) (Finset.subset_univ _)

/-- A store into a whole buffer. -/
theorem step_store (c : Dev nD) {sh : Shape} {e : EltTy} (M : Memref sig .tc .vmem sh e) (f : Buf (Elt F) (M.view.loc (c : Thread nD τ))) (r : Rect sh)
    {w : r.shape.Idx → Elt F e} {hx : (M.access r).Stores Finset.univ} {hm : Finset.univ = Finset.univ ∨ ∀ a, r.stride a = 1}
    {α : Type} {Q : α → sProp 𝕄} {kk : PUnit → Prog (TpuEff nD τ sig (Elt F) Λ₀ .tc) α} :
    ((M.view.loc (c : Thread nD τ) ↦{fullShare} f : sProp 𝕄)) ⊢ iprop(((M.view.loc (c : Thread nD τ) ↦{fullShare} (M.access r).write (Elt F) f w Finset.univ) -∗ Wp c (kk ⟨⟩) Q)
      -∗ Wp c (.op (.store M r w Finset.univ hx hm) kk) Q) :=
  wp_store 𝒱₀ (c : Thread nD τ) none Set.univ (m := M) (r := r) (Mk := Finset.univ) (Finset.subset_univ _)

/-- A load of a slot that holds `V`. -/
theorem step_load_slot (c : Dev nD) (M : Memref sig .tc .vmem S3x256x512 .bf16) (j : Fin 3) (V : S1x256x512.Idx → Elt F .bf16)
    {hl : M.view.LoadsAt (rS j).toLoadRect} {α : Type} {Q : α → sProp 𝕄} {kk : (S1x256x512.Idx → Elt F .bf16) → Prog (TpuEff nD τ sig (Elt F) Λ₀ .tc) α} :
    slotAt M c j V ⊢ iprop((slotAt M c j V -∗ Wp c (kk V) Q) -∗ Wp c (.op (.load M (rS j).toLoadRect hl) kk) Q) := by
  unfold slotAt
  iintro ⟨%f, %hf, H⟩ Hk
  iapply (wp_load_rect 𝒱₀ (c : Thread nD τ) none Set.univ (m := M) (r := rS j) subset_rfl) $$ H
  iintro H
  rw [hf]
  iapply Hk
  iexists f
  isplitr; · ipureintro; exact hf
  iexact H

/-- A load of a slot, its value not used. -/
theorem step_load_any (c : Dev nD) (M : Memref sig .tc .vmem S3x256x512 .bf16) (j : Fin 3)
    {hl : M.view.LoadsAt (rS j).toLoadRect} {α : Type} {Q : α → sProp 𝕄} {kk : (S1x256x512.Idx → Elt F .bf16) → Prog (TpuEff nD τ sig (Elt F) Λ₀ .tc) α} :
    slotAny M c j ⊢ iprop((∀ x, slotAny M c j -∗ Wp c (kk x) Q) -∗ Wp c (.op (.load M (rS j).toLoadRect hl) kk) Q) := by
  unfold slotAny
  iintro ⟨%f, H⟩ Hk
  iapply (wp_load_rect 𝒱₀ (c : Thread nD τ) none Set.univ (m := M) (r := rS j) subset_rfl) $$ H
  iintro H
  iapply Hk
  iexists f
  iexact H

/-- A store of a slot. -/
theorem step_store_slot (c : Dev nD) (M : Memref sig .tc .vmem S3x256x512 .bf16) (j : Fin 3) {w : S1x256x512.Idx → Elt F .bf16}
    {hx : (M.access (rS j)).Stores Finset.univ} {hm : Finset.univ = Finset.univ ∨ ∀ a, (rS j).stride a = 1}
    {α : Type} {Q : α → sProp 𝕄} {kk : PUnit → Prog (TpuEff nD τ sig (Elt F) Λ₀ .tc) α} :
    slotAny M c j ⊢ iprop((slotAt M c j w -∗ Wp c (kk ⟨⟩) Q) -∗ Wp c (.op (.store M (rS j) w Finset.univ hx hm) kk) Q) := by
  unfold slotAny slotAt
  iintro ⟨%f, H⟩ Hk
  iapply (wp_store 𝒱₀ (c : Thread nD τ) none Set.univ (m := M) (r := rS j) (w := w) (Mk := Finset.univ) (S := slotSet M j) (f := f) (View.setOn_univ (M.access (rS j))).subset) $$ H
  iintro H
  iapply Hk
  iexists ((M.access (rS j)).write (Elt F) f w Finset.univ)
  isplitr; · ipureintro; exact View.read_write_univ _ _
  iexact H

/-! ## Transfers -/

/-- The elements of a send slot, seen as a matrix. -/
theorem sM_set (j : Fin 3) : (sM j).view.set = slotSet sW j := Memref.set_view_squeeze _ _
/-- The elements of a landing slot, seen as a matrix. -/
theorem rM_set (j : Fin 3) : (rM j).view.set = slotSet rW j := Memref.set_view_squeeze _ _

/-- The credit of a copy into a landing slot. -/
theorem rM_amount (k : Fin 3) (s : DmaSem sig) : (rM k).view.amount (.dma s) = N1 := rfl

/-- What lands in a slot from a slot that held `V` is `V`. -/
theorem landed (j k : Fin 3) (fs : sW.view.ty.Contents (Elt F)) (fd : rW.view.ty.Contents (Elt F)) (V : S1x256x512.Idx → Elt F .bf16)
    (h : (sW.access (rS j)).read (Elt F) fs = V) :
    (rW.access (rS k)).read (Elt F) ((rM k).view.write (Elt F) fd ((sM j).view.read (Elt F) fs) Finset.univ) = V := by
  have e : (rM k).view.write (Elt F) fd ((sM j).view.read (Elt F) fs) Finset.univ
      = (rW.access (rS k)).write (Elt F) fd (fun x => (sM j).view.read (Elt F) fs ((Shape.reshapeEquiv (Shape.Squeezes.numel_eq squeezes_S1x256x512_S256x512)).symm x)) Finset.univ :=
    View.write_reshape_univ _ _ _ _
  rw [e, View.read_write_univ]
  funext x
  rw [← h]
  show (sW.access (rS j)).read (Elt F) fs (Shape.reshapeEquiv _ _) = _
  rw [Equiv.apply_symm_apply]

/-- The transfer of slot `j` to `zp j c`. -/
theorem step_send_slot (c n : Dev nD) (j : Fin 3) (hn : n = zp j c) {sS sD : DmaSem sig} (hS : csem (dS j) = .dma sS) (hD : csem (dR (op j)) = .dma sD)
    {hsc : (rM (op j) : Memref sig (Dev.tc n : Thread nD τ).2.kind .vmem S256x512 .bf16).view.ref.isScScratch = false}
    {hsrc : (sM j).view.WordExact} {hdst : (rM (op j)).view.WordExact}
    {hsem : DmaTarget.Typed .vmem (.dma sD) (.remote (Dev.tc n : Thread nD τ) (rM (op j) : Memref sig (Dev.tc n : Thread nD τ).2.kind .vmem S256x512 .bf16) (.dma sS) hsc)}
    (l : List ((Dev nD × Fin 12) × ℕ)) {α : Type} {Q : α → sProp 𝕄} {kk : PUnit → Prog (TpuEff nD τ sig (Elt F) Λ₀ .tc) α} :
    iprop(Recs m ρ K ∗ slotAt sW c j (sentV m ρ c j) ∗ slotAny rW (zp j c) (op j) ∗ Owe c (((zp j c, dR (op j)), N1) :: l)
        ∗ dutyTok ER (cl (c, dS j)) 0 0 ∗ dutyTok ER (cl (zp j c, dR (op j))) 0 0)
      ⊢ iprop(((cred (tallyAt (cl (c, dS j)) () N1) ∗ Owe c l) -∗ Wp c (kk ⟨⟩) Q)
          -∗ Wp c (.op (.enqueueDma (sM j) (.remote (Dev.tc n : Thread nD τ) (rM (op j)) (.dma sS) hsc) (.dma sD) hsrc hdst hsem) kk) Q) := by
  subst hn
  iintro ⟨#HR, Hs, Hd, HO, Ht1, Ht2⟩ Hk
  unfold Owe slotAt slotAny
  icases HO with ⟨%W, HO⟩
  icases Hs with ⟨%fs, %hfs, Hs⟩
  icases Hd with ⟨%fd, Hd⟩
  have e1 : ((c : Thread nD τ), SemLoc.dma sS) = cl (c, dS j) := by show _ = (_, csem (dS j)); rw [hS]
  have e2 : (((zp j c : Dev nD) : Thread nD τ), SemLoc.dma sD) = cl (zp j c, dR (op j)) := by show _ = (_, csem (dR (op j))); rw [hD]
  have hduty1 : (0 : Fin 5) ∈ (rd (F := F) m ρ).duties (cl (c, dS j)) 0 := by rw [duties_cl]; fin_cases j <;> decide
  have hduty2 : (0 : Fin 5) ∈ (rd (F := F) m ρ).duties (cl (zp j c, dR (op j))) 0 := by rw [duties_cl]; fin_cases j <;> decide
  have hamt1 : (rd (F := F) m ρ).amount (cl (c, dS j)) 0 0 = N1 := by rw [amount_cl]; fin_cases j <;> rfl
  have hamt2 : (rd (F := F) m ρ).amount (cl (zp j c, dR (op j))) 0 0 = N1 := by rw [amount_cl]; fin_cases j <;> rfl
  have hp1 : (rd (F := F) m ρ).payload (cl (c, dS j)) 0 0 = slotAt sW c j (sentV m ρ c j) := by rw [payload_cl]; fin_cases j <;> rfl
  have hp2 : (rd (F := F) m ρ).payload (cl (zp j c, dR (op j))) 0 0 = slotAt rW (zp j c) (op j) (sentV m ρ c j) := by
    have : recvV m ρ (zp j c) (op j) = sentV m ρ c j := by unfold recvV; rw [zp_op, op_op]
    rw [payload_cl, ← this]; fin_cases j <;> rfl
  iapply (Rounds.wp_send_pointsTo 𝒱₀ ER (rd m ρ) (c : Thread nD τ) none (κ₁ := K (c, dS j)) (κ₂ := K (zp j c, dR (op j)))
    (r₁ := 0) (r₂ := 0) (d₁ := 0) (d₂ := 0) (c' := ((zp j c : Dev nD) : Thread nD τ)) (src := sM j) (dst := rM (op j)) (fs := fs) (fd := fd) (q := fullShare)
    (by rw [e1]; exact hduty1) (by rw [e2]; exact hduty2) () () N1 (rM_amount (op j) sD) (by rw [e1]; exact hamt1) (by rw [e2]; exact hamt2)
    (owedL l) (by rw [e2]; first | done | rfl) (W := W)
    (by rw [e1, hp1]; unfold slotAt; iintro H; iexists fs; isplitr
        · ipureintro; exact hfs
        · rw [sM_set]; iexact H)
    (by rw [e2, hp2]; unfold slotAt; iintro H; iexists _; isplitr
        · ipureintro; exact landed j (op j) fs fd _ hfs
        · rw [rM_set]; iexact H)) $$ [Hs Hd HO Ht1 Ht2]
  · isplitr; · rw [e1]; iapply (Recs_inv m ρ K (c, dS j)); iexact HR
    isplitr; · rw [e2]; iapply (Recs_inv m ρ K (zp j c, dR (op j))); iexact HR
    isplitl [Hs]; · rw [sM_set]; iexact Hs
    isplitl [Hd]; · rw [rM_set]; iexact Hd
    isplitl [HO]; · iexact HO
    isplitl [Ht1]; · rw [e1]; iexact Ht1
    isplitr; · rw [e1]; iapply (Recs_reached m ρ K (c, dS j)); iexact HR
    isplitl [Ht2]; · rw [e2]; iexact Ht2
    rw [e2]; iapply (Recs_reached m ρ K (zp j c, dR (op j))); iexact HR
  iintro ⟨Hc, HO⟩
  rw [e1]
  iapply Hk
  isplitl [Hc]; · iexact Hc
  iexists W; iexact HO

/-- The transfer of a whole buffer to the whole buffer of the same shape on `t`: `a` the sender's own cell, `b` the receiver's. -/
theorem step_send_buf (c n t : Dev nD) (hn : n = t) (hr : τ.routes (c : Thread nD τ) (t : Thread nD τ) = true) {sh : Shape} (A B : Memref sig .tc .vmem sh .bf16) (a b : Fin 12) (N : ℕ)
    {sS sD : DmaSem sig} (hS : csem a = .dma sS) (hD : csem b = .dma sD)
    (hduty1 : (0 : Fin 5) ∈ dutiesOf (csem a)) (hduty2 : (0 : Fin 5) ∈ dutiesOf (csem b)) (hamt1 : amountOf (csem a) = N) (hamt2 : amountOf (csem b) = N)
    (hN : B.view.amount (.dma sD) = N) (hA : A.view.set = Finset.univ) (hB : B.view.set = Finset.univ)
    (fs : Buf (Elt F) (A.view.loc (c : Thread nD τ)))
    (hp1 : (A.view.loc (c : Thread nD τ) ↦{fullShare} fs : sProp 𝕄) ⊢ payOf m ρ c (csem a) 0)
    (hp2 : ∀ fd, (B.view.loc (t : Thread nD τ) ↦{fullShare} B.view.write (Elt F) fd (A.view.read (Elt F) fs) Finset.univ : sProp 𝕄) ⊢ payOf m ρ t (csem b) 0)
    {hsc : (B : Memref sig (Dev.tc n : Thread nD τ).2.kind .vmem sh .bf16).view.ref.isScScratch = false} {hsrc : A.view.WordExact} {hdst : B.view.WordExact}
    {hsem : DmaTarget.Typed .vmem (.dma sD) (.remote (Dev.tc n : Thread nD τ) (B : Memref sig (Dev.tc n : Thread nD τ).2.kind .vmem sh .bf16) (.dma sS) hsc)}
    (l : List ((Dev nD × Fin 12) × ℕ)) {α : Type} {Q : α → sProp 𝕄} {kk : PUnit → Prog (TpuEff nD τ sig (Elt F) Λ₀ .tc) α} :
    iprop(Recs m ρ K ∗ (A.view.loc (c : Thread nD τ) ↦{fullShare} fs) ∗ (∃ fd, B.view.loc (t : Thread nD τ) ↦{fullShare} fd) ∗ Owe c (((t, b), N) :: l)
        ∗ dutyTok ER (cl (c, a)) 0 0 ∗ dutyTok ER (cl (t, b)) 0 0)
      ⊢ iprop(((cred (tallyAt (cl (c, a)) () N) ∗ Owe c l) -∗ Wp c (kk ⟨⟩) Q)
          -∗ Wp c (.op (.enqueueDma A (.remote (Dev.tc n : Thread nD τ) B (.dma sS) hsc) (.dma sD) hsrc hdst hsem) kk) Q) := by
  subst hn
  iintro ⟨#HR, Hs, ⟨%fd, Hd⟩, HO, Ht1, Ht2⟩ Hk
  unfold Owe
  icases HO with ⟨%W, HO⟩
  have e1 : ((c : Thread nD τ), SemLoc.dma sS) = cl (c, a) := by show _ = (_, csem a); rw [hS]
  have e2 : (((n : Dev nD) : Thread nD τ), SemLoc.dma sD) = cl (n, b) := by show _ = (_, csem b); rw [hD]
  iapply (Rounds.wp_send_pointsTo 𝒱₀ ER (rd m ρ) (c : Thread nD τ) none (κ₁ := K (c, a)) (κ₂ := K (n, b))
    (r₁ := 0) (r₂ := 0) (d₁ := 0) (d₂ := 0) (c' := ((n : Dev nD) : Thread nD τ)) (src := A) (dst := B) (fs := fs) (fd := fd) (q := fullShare)
    (by rw [e1, duties_cl]; exact hduty1) (by rw [e2, duties_cl]; exact hduty2) () () N hN (by rw [e1, amount_cl]; exact hamt1) (by rw [e2, amount_cl]; exact hamt2)
    (owedL l) (by rw [e2]; first | done | rfl) (W := W)
    (by rw [e1, payload_cl, hA]; exact hp1)
    (by rw [e2, payload_cl, hB]; exact hp2 fd) hr) $$ [Hs Hd HO Ht1 Ht2]
  · isplitr; · rw [e1]; iapply (Recs_inv m ρ K (c, a)); iexact HR
    isplitr; · rw [e2]; iapply (Recs_inv m ρ K (n, b)); iexact HR
    isplitl [Hs]; · rw [hA]; iexact Hs
    isplitl [Hd]; · rw [hB]; iexact Hd
    isplitl [HO]; · iexact HO
    isplitl [Ht1]; · rw [e1]; iexact Ht1
    isplitr; · rw [e1]; iapply (Recs_reached m ρ K (c, a)); iexact HR
    isplitl [Ht2]; · rw [e2]; iexact Ht2
    rw [e2]; iapply (Recs_reached m ρ K (n, b)); iexact HR
  iintro ⟨Hc, HO⟩
  rw [e1]
  iapply Hk
  isplitl [Hc]; · iexact Hc
  iexists W; iexact HO

/-! ## The stacked buffers -/

/-- Two stores of whole rows, the lower half and the upper half in either order, leave the stack. -/
theorem stack_writes {n N : ℕ} (hn : 0 < n) (hN : N = n + n) {t : ℕ} (ht : t < 2) (M : Memref sig .tc .vmem ⟨2, ![N, 512]⟩ .bf16) (f : M.view.ty.Contents (Elt F))
    {o1 o2 : Fin 2 → ℕ} (h1 : o1 = ![n * t, 0]) (h2 : o2 = ![n * (1 - t), 0])
    (i1 : ∀ a, o1 a + (![n, 512] : Fin 2 → ℕ) a ≤ (![N, 512] : Fin 2 → ℕ) a) (i2 : ∀ a, o2 a + (![n, 512] : Fin 2 → ℕ) a ≤ (![N, 512] : Fin 2 → ℕ) a)
    (A B : (⟨2, ![n, 512]⟩ : Shape).Idx → Elt F .bf16) :
    M.view.read (Elt F) ((M.access (Rect.unit (s := ⟨2, ![N, 512]⟩) o2 ![n, 512] i2)).write (Elt F)
      ((M.access (Rect.unit (s := ⟨2, ![N, 512]⟩) o1 ![n, 512] i1)).write (Elt F) f A Finset.univ) B Finset.univ) = stack n hn t A B := by
  show M.view.read (Elt F) (M.view.writes (Elt F) f [⟨Rect.unit (s := ⟨2, ![N, 512]⟩) o2 ![n, 512] i2, B⟩, ⟨Rect.unit (s := ⟨2, ![N, 512]⟩) o1 ![n, 512] i1, A⟩]) = _
  funext y
  have hy : (y 0).val < n + n := hN ▸ idx2_lt0 y
  have hdm : n * ((y 0).val / n) + (y 0).val % n = (y 0).val := Nat.div_add_mod (y 0).val n
  have hmod := Nat.mod_lt (y 0).val hn
  have hdiv : (y 0).val / n = 0 ∨ (y 0).val / n = 1 := by
    have : (y 0).val / n < 2 := Nat.div_lt_of_lt_mul (by omega)
    rcases Nat.lt_succ_iff_lt_or_eq.mp this with h | h
    · exact Or.inl (Nat.lt_one_iff.mp h)
    · exact Or.inr h
  unfold stack
  have ht' : t = 0 ∨ t = 1 := by omega
  by_cases h : (y 0).val / n = t
  · rw [if_pos h, View.read_writes_cons_rows_of_not_mem (W := n) M.view f i2 B _ y h2 rfl (by
      rcases ht' with rfl | rfl <;> simp only [h, Nat.mul_zero, Nat.mul_one, Nat.zero_add] at * <;> simp <;> omega)]
    refine View.read_writes_cons_rows_of_mem M.view f i1 A _ y _ h1 ?_ rfl
    show _ = n * t + (y 0).val % n
    rw [← h]; omega
  · rw [if_neg h]
    refine View.read_writes_cons_rows_of_mem M.view f i2 B _ y _ h2 ?_ rfl
    show _ = n * (1 - t) + (y 0).val % n
    have : 1 - t = (y 0).val / n := by omega
    rw [this]; omega

end Cert.RunKernelIdeal

end
-- ==== Proof.KernelIdeal.Parts.lean ====
/-
The kernel's body, part by part: what each part of the generated program takes and gives back.
-/
module

public import proofs.«01_k».proof.Proof.KernelIdeal.Steps
public import Idealize.ShloMosaic.Lib.Pipeline.Value

@[expose] public section

noncomputable section

namespace Cert.RunKernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 12 → ℕ)

/-- The right to pay duty `d` on cell `k` of device `t`. -/
abbrev tok (t : Dev nD) (k : Fin 12) (d : Fin 5) : sProp 𝕄 := dutyTok ER (cl (t, k)) 0 d
/-- The position of device `c` on its own cell `k`: before its one round and after it. -/
abbrev pos (c : Dev nD) (k : Fin 12) (r : ℕ) : sProp 𝕄 := atPos ER (cl (c, k)) r ∅ 0
/-- The credit to wait for `n` on device `c`'s own cell `k`. -/
abbrev crd (c : Dev nD) (k : Fin 12) (n : ℕ) : sProp 𝕄 := cred (tallyAt (cl (c, k)) () n)

/-- The debts of device `c` after the first `n` payments. -/
abbrev rest (c : Dev nD) (n : ℕ) : List ((Dev nD × Fin 12) × ℕ) := (debts c).drop n

/-- Their levels. -/
theorem levs_rest (c : Dev nD) (n : ℕ) : (rest c n).map (fun p => lvOf (csem p.1.2)) = [1, 1, 1, 1, 1, 2, 2, 2, 3, 4, 5, 5, 5, 5, 5].drop n := by
  rw [List.map_drop]; rfl

/-- The end of a piece of the body. -/
theorem step_ret (c : Dev nD) {α : Type} (a : α) (Q : α → sProp 𝕄) : Q a ⊢ Wp c (.ret a) Q := by
  unfold Wp; rw [wp_ret]; iintro H; imodintro; iexact H

/-- Offsets of zero, written in the two ways. -/
theorem hz2 : (![0, 0] : Fin 2 → Nat) = fun _ => 0 := funext fun a => by fin_cases a <;> rfl

section Parts

variable (c : Dev nD)

/-- The barrier unit paid to peer `d` hands over the buffer which that peer writes. -/
theorem barPay_peer (d : Fin 5) : payOf m ρ (peer d c) (csem 0) d
    = (match d with | 0 => slotAny rW c 0 | 1 => slotAny rW c 1 | 2 => slotAny rW c 2 | 3 => bufAny cc0_scratch3 c | 4 => bufAny cc0_scratch5 c : sProp 𝕄) := by
  have h : ∀ j, zp (op j) (zp j c) = c := fun j => zp_op j c
  fin_cases d
  · show slotAny rW (zp 2 (zp 0 c)) 0 = slotAny rW c 0; rw [show zp 2 (zp 0 c) = c from h 0]
  · show slotAny rW (zp 1 (zp 1 c)) 1 = slotAny rW c 1; rw [show zp 1 (zp 1 c) = c from h 1]
  · show slotAny rW (zp 0 (zp 2 c)) 2 = slotAny rW c 2; rw [show zp 0 (zp 2 c) = c from h 2]
  · show bufAny cc0_scratch3 (yp (yp c)) = bufAny cc0_scratch3 c; rw [yp_yp]
  · show bufAny cc0_scratch5 (xp (xp c)) = bufAny cc0_scratch5 c; rw [xp_xp]
/-- An exit unit hands over nothing. -/
theorem exit_pay (t : Dev nD) (d : Fin 5) : (payOf m ρ t (csem 1) d : sProp 𝕄) = iprop(emp) := rfl

/-- The two stores into the half column. -/
theorem half_writes (f : hM.view.ty.Contents (Elt F)) :
    (hM.access (Rect.unit (s := S512x512) (k0_off4 c) S256x512.size (k0_off4_inb c))).write (Elt F)
      ((hM.access (Rect.unit (s := S512x512) (k0_off3 c) S256x512.size (k0_off3_inb c))).write (Elt F) f (k0_pay7 (accV m ρ c)) Finset.univ)
      (k0_pay8 (accV m ρ (yp c))) Finset.univ = halfV m ρ c := by
  rw [show k0_pay7 (accV m ρ c) = accV m ρ c from shapeCast_self _ _, show k0_pay8 (accV m ρ (yp c)) = accV m ρ (yp c) from shapeCast_self _ _]
  refine Eq.trans ?_ (stack_writes (n := 256) (N := 512) (by decide) rfl (t := (c.val / 4) % 2) (Nat.mod_lt _ (by decide)) hM f
    (k0_off3_eq c) ((k0_off4_eq c).trans (by rw [show 256 - 256 * (c.val / 4 % 2) = 256 * (1 - c.val / 4 % 2) from by omega])) (k0_off3_inb c) (k0_off4_inb c)
    (accV m ρ c) (accV m ρ (yp c)))
  rfl
/-- The two stores into the result. -/
theorem out_writes (f : oM.view.ty.Contents (Elt F)) :
    (oM.access (Rect.unit (s := S1024x512) (k0_off6 c) S512x512.size (k0_off6_inb c))).write (Elt F)
      ((oM.access (Rect.unit (s := S1024x512) (k0_off5 c) S512x512.size (k0_off5_inb c))).write (Elt F) f (halfV m ρ c) Finset.univ)
      (halfV m ρ (xp c)) Finset.univ = outV m ρ c := by
  have hc : c.val / 8 < 2 := by have := c.isLt; unfold nD at this; omega
  refine Eq.trans ?_ (stack_writes (n := 512) (N := 1024) (by decide) rfl (t := c.val / 8) hc oM f
    (k0_off5_eq c) ((k0_off6_eq c).trans (by rw [show 512 - 512 * (c.val / 8) = 512 * (1 - c.val / 8) from by omega])) (k0_off5_inb c) (k0_off6_inb c)
    (halfV m ρ c) (halfV m ρ (xp c)))
  rfl

set_option maxHeartbeats 800000 in
/-- Slot 0 is sent and slot 1 filled. -/
theorem part4 (v2 : BitVec 32) (v5 : BitVec 32) (v8 : BitVec 32) (v11 : BitVec 32) (v89 : BitVec 32) (Kt : BitVec 32 → sProp 𝕄) :
    iprop((Recs m ρ K ∗ slotAt sW c 0 (sentV m ρ c 0) ∗ slotAny rW (zp 0 c) (op 0) ∗ Owe c (rest c 5) ∗ tok c (dS 0) 0 ∗ tok (zp 0 c) (dR (op 0)) 0 ∗ bufAt cc0_stg0_0 c (xstg m ρ c) ∗ slotAny sW c 1)
        ∗ (∀ r, (crd c (dS 0) N1 ∗ Owe c (rest c 6) ∗ bufAt cc0_stg0_0 c (xstg m ρ c) ∗ slotAt sW c 1 (sentV m ρ c 1)) -∗ Kt r))
      ⊢ Wp c (k0_part4 (F := F) inM (Memref.isWhole_whole _) oM (Memref.isWhole_whole _) sW (Memref.isWhole_whole _) rW (Memref.isWhole_whole _) aM (Memref.isWhole_whole _) yM (Memref.isWhole_whole _)
        hM (Memref.isWhole_whole _) xM (Memref.isWhole_whole _) cc0_scratch6 cc0_scratch7 cc0_scratch8 cc0_scratch9 cc0_scoped0 c v2 v5 v8 v11 v89) Kt := by
  rw [k0_part4_eq_skeleton]; unfold k0_part4_skel
  simp only [semSignalWord, semWaitWord, Prog.lift, Prog.bind_op, Prog.bind_ret, Prog.pure_eq_ret]
  iintro ⟨⟨#HR, Hs0, Hd0, HO, Ht1, Ht2, Hx, Hs1⟩, Hk⟩
  iapply (step_send_slot m ρ K c _ 0 (dev6_eq c) (sS := 2) (sD := 7) rfl rfl (rest c 6)) $$ [Hs0 Hd0 HO Ht1 Ht2]
  · isplitr; · iexact HR
    isplitl [Hs0]; · iexact Hs0
    isplitl [Hd0]; · iexact Hd0
    isplitl [HO]; · iexact HO
    isplitl [Ht1]; · iexact Ht1
    iexact Ht2
  iintro ⟨Hc, HO⟩
  iapply (step_load c inM (xstg m ρ c)) $$ Hx; iintro Hx
  iapply (step_load_any c sW 1) $$ Hs1; iintro %_u Hs1
  iapply (step_store_slot c sW 1) $$ Hs1; iintro Hs1
  iapply (step_ret c _ Kt)
  iapply Hk
  isplitl [Hc]; · iexact Hc
  isplitl [HO]; · iexact HO
  isplitl [Hx]; · iexact Hx
  iexact Hs1

set_option maxHeartbeats 800000 in
/-- Slot 1 is sent and slot 2 filled. -/
theorem part5 (v2 : BitVec 32) (v5 : BitVec 32) (v8 : BitVec 32) (v11 : BitVec 32) (v123 : BitVec 32) (Kt : BitVec 32 → sProp 𝕄) :
    iprop((Recs m ρ K ∗ slotAt sW c 1 (sentV m ρ c 1) ∗ slotAny rW (zp 1 c) (op 1) ∗ Owe c (rest c 6) ∗ tok c (dS 1) 0 ∗ tok (zp 1 c) (dR (op 1)) 0 ∗ bufAt cc0_stg0_0 c (xstg m ρ c) ∗ slotAny sW c 2)
        ∗ (∀ r, (crd c (dS 1) N1 ∗ Owe c (rest c 7) ∗ bufAt cc0_stg0_0 c (xstg m ρ c) ∗ slotAt sW c 2 (sentV m ρ c 2)) -∗ Kt r))
      ⊢ Wp c (k0_part5 (F := F) inM (Memref.isWhole_whole _) oM (Memref.isWhole_whole _) sW (Memref.isWhole_whole _) rW (Memref.isWhole_whole _) aM (Memref.isWhole_whole _) yM (Memref.isWhole_whole _)
        hM (Memref.isWhole_whole _) xM (Memref.isWhole_whole _) cc0_scratch6 cc0_scratch7 cc0_scratch8 cc0_scratch9 cc0_scoped0 c v2 v5 v8 v11 v123) Kt := by
  rw [k0_part5_eq_skeleton]; unfold k0_part5_skel
  simp only [semSignalWord, semWaitWord, Prog.lift, Prog.bind_op, Prog.bind_ret, Prog.pure_eq_ret]
  iintro ⟨⟨#HR, Hs1, Hd1, HO, Ht1, Ht2, Hx, Hs2⟩, Hk⟩
  iapply (step_send_slot m ρ K c _ 1 (dev7_eq c) (sS := 3) (sD := 6) rfl rfl (rest c 7)) $$ [Hs1 Hd1 HO Ht1 Ht2]
  · isplitr; · iexact HR
    isplitl [Hs1]; · iexact Hs1
    isplitl [Hd1]; · iexact Hd1
    isplitl [HO]; · iexact HO
    isplitl [Ht1]; · iexact Ht1
    iexact Ht2
  iintro ⟨Hc, HO⟩
  iapply (step_load c inM (xstg m ρ c)) $$ Hx; iintro Hx
  iapply (step_load_any c sW 2) $$ Hs2; iintro %_u Hs2
  iapply (step_store_slot c sW 2) $$ Hs2; iintro Hs2
  iapply (step_ret c _ Kt)
  iapply Hk
  isplitl [Hc]; · iexact Hc
  isplitl [HO]; · iexact HO
  isplitl [Hx]; · iexact Hx
  iexact Hs2

set_option maxHeartbeats 800000 in
/-- Slot 2 is sent, the device's own chunk is read, and the landing in slot 2 awaited. -/
theorem part6 (v2 : BitVec 32) (v5 : BitVec 32) (v8 : BitVec 32) (v11 : BitVec 32) (v89 : BitVec 32) (v157 : BitVec 32) (Kt : FVec F S256x512 .bf16 → sProp 𝕄) :
    iprop((Recs m ρ K ∗ levAts L lv ∗ slotAt sW c 2 (sentV m ρ c 2) ∗ slotAny rW (zp 2 c) (op 2) ∗ Owe c (rest c 7) ∗ tok c (dS 2) 0 ∗ tok (zp 2 c) (dR (op 2)) 0 ∗ bufAt cc0_stg0_0 c (xstg m ρ c) ∗ crd c 7 N1 ∗ pos c 7 0)
        ∗ (∀ r, (⌜r = k0_pay4 (ownV m ρ c)⌝ ∗ crd c (dS 2) N1 ∗ Owe c (rest c 8) ∗ bufAt cc0_stg0_0 c (xstg m ρ c) ∗ pos c 7 1 ∗ slotAt rW c 2 (recvV m ρ c 2)) -∗ Kt r))
      ⊢ Wp c (k0_part6 (F := F) inM (Memref.isWhole_whole _) oM (Memref.isWhole_whole _) sW (Memref.isWhole_whole _) rW (Memref.isWhole_whole _) aM (Memref.isWhole_whole _) yM (Memref.isWhole_whole _)
        hM (Memref.isWhole_whole _) xM (Memref.isWhole_whole _) cc0_scratch6 cc0_scratch7 cc0_scratch8 cc0_scratch9 cc0_scoped0 c v2 v5 v8 v11 v89 v157) Kt := by
  rw [k0_part6_eq_skeleton]; unfold k0_part6_skel
  simp only [semSignalWord, semWaitWord, Prog.lift, Prog.bind_op, Prog.bind_ret, Prog.pure_eq_ret]
  iintro ⟨⟨#HR, #Hlev, Hs2, Hd2, HO, Ht1, Ht2, Hx, Hc7, Ha7⟩, Hk⟩
  iapply (step_send_slot m ρ K c _ 2 (dev8_eq c) (sS := 4) (sD := 5) rfl rfl (rest c 8)) $$ [Hs2 Hd2 HO Ht1 Ht2]
  · isplitr; · iexact HR
    isplitl [Hs2]; · iexact Hs2
    isplitl [Hd2]; · iexact Hd2
    isplitl [HO]; · iexact HO
    isplitl [Ht1]; · iexact Ht1
    iexact Ht2
  iintro ⟨Hc, HO⟩
  iapply (step_load c inM (xstg m ρ c)) $$ Hx; iintro Hx
  iapply (step_waitDma m ρ K c 7 7 rfl (by decide) (src := sM 0) (dst := rM 2) N1 rfl rfl (rest c 8) (by rw [levs_rest]; decide)) $$ [Hc7 HO Ha7]
  · isplitr; · iexact HR
    isplitr; · iexact Hlev
    isplitl [Hc7]; · iexact Hc7
    isplitl [HO]; · iexact HO
    iexact Ha7
  iintro ⟨HO, Ha7, Hr2⟩
  ihave Hr2 := (Entails.of_eq (show dmaPay m ρ c 7 = slotAt rW c 2 (recvV m ρ c 2) from rfl)) $$ Hr2
  iapply (step_ret c _ Kt)
  iapply Hk
  isplitr; · ipureintro; rfl
  isplitl [Hc]; · iexact Hc
  isplitl [HO]; · iexact HO
  isplitl [Hx]; · iexact Hx
  isplitl [Ha7]; · iexact Ha7
  iexact Hr2

set_option maxHeartbeats 800000 in
/-- The landings in slots 1 and 0 are awaited and read. -/
theorem part7 (v2 : BitVec 32) (v5 : BitVec 32) (v123 : BitVec 32) (v157 : BitVec 32) (v184 : FVec F S256x512 .bf16) (Kt : (Σ' (_ : FVec F S256x512 .f32), Vec F S1x256x512 .bf16) → sProp 𝕄) :
    iprop((Recs m ρ K ∗ levAts L lv ∗ Owe c (rest c 8) ∗ crd c 6 N1 ∗ pos c 6 0 ∗ crd c 5 N1 ∗ pos c 5 0)
        ∗ (∀ r, (⌜r = ⟨k0_pay5 v184 (recvV m ρ c 0), recvV m ρ c 1⟩⌝ ∗ Owe c (rest c 8) ∗ pos c 6 1 ∗ pos c 5 1 ∗ slotAt rW c 0 (recvV m ρ c 0) ∗ slotAt rW c 1 (recvV m ρ c 1)) -∗ Kt r))
      ⊢ Wp c (k0_part7 (F := F) inM (Memref.isWhole_whole _) oM (Memref.isWhole_whole _) sW (Memref.isWhole_whole _) rW (Memref.isWhole_whole _) aM (Memref.isWhole_whole _) yM (Memref.isWhole_whole _)
        hM (Memref.isWhole_whole _) xM (Memref.isWhole_whole _) cc0_scratch6 cc0_scratch7 cc0_scratch8 cc0_scratch9 cc0_scoped0 v2 v5 v123 v157 v184) Kt := by
  rw [k0_part7_eq_skeleton]; unfold k0_part7_skel
  simp only [semSignalWord, semWaitWord, Prog.lift, Prog.bind_op, Prog.bind_ret, Prog.pure_eq_ret]
  iintro ⟨⟨#HR, #Hlev, HO, Hc6, Ha6, Hc5, Ha5⟩, Hk⟩
  iapply (step_waitDma m ρ K c 6 6 rfl (by decide) (src := sM 1) (dst := rM 1) N1 rfl rfl (rest c 8) (by rw [levs_rest]; decide)) $$ [Hc6 HO Ha6]
  · isplitr; · iexact HR
    isplitr; · iexact Hlev
    isplitl [Hc6]; · iexact Hc6
    isplitl [HO]; · iexact HO
    iexact Ha6
  iintro ⟨HO, Ha6, Hr1⟩
  ihave Hr1 := (Entails.of_eq (show dmaPay m ρ c 6 = slotAt rW c 1 (recvV m ρ c 1) from rfl)) $$ Hr1
  iapply (step_waitDma m ρ K c 5 5 rfl (by decide) (src := sM 2) (dst := rM 0) N1 rfl rfl (rest c 8) (by rw [levs_rest]; decide)) $$ [Hc5 HO Ha5]
  · isplitr; · iexact HR
    isplitr; · iexact Hlev
    isplitl [Hc5]; · iexact Hc5
    isplitl [HO]; · iexact HO
    iexact Ha5
  iintro ⟨HO, Ha5, Hr0⟩
  ihave Hr0 := (Entails.of_eq (show dmaPay m ρ c 5 = slotAt rW c 0 (recvV m ρ c 0) from rfl)) $$ Hr0
  iapply (step_load_slot c rW 0 (recvV m ρ c 0)) $$ Hr0; iintro Hr0
  iapply (step_load_slot c rW 1 (recvV m ρ c 1)) $$ Hr1; iintro Hr1
  iapply (step_ret c _ Kt)
  iapply Hk
  isplitr; · ipureintro; rfl
  isplitl [HO]; · iexact HO
  isplitl [Ha6]; · iexact Ha6
  isplitl [Ha5]; · iexact Ha5
  isplitl [Hr0]; · iexact Hr0
  iexact Hr1

set_option maxHeartbeats 800000 in
/-- The sum is stored, exchanged with the `y` mate, and read back. -/
theorem part8 (v2 : BitVec 32) (v5 : BitVec 32) (v8 : BitVec 32) (v225 : FVec F S256x512 .f32) (v226 : Vec F S1x256x512 .bf16) (hv : k0_pay6 v225 v226 (recvV m ρ c 2) = accV m ρ c) (Kt : Vec F S256x512 .bf16 → sProp 𝕄) :
    iprop((Recs m ρ K ∗ levAts L lv ∗ slotAt rW c 2 (recvV m ρ c 2) ∗ bufAny cc0_scratch2 c ∗ bufAny cc0_scratch3 (yp c) ∗ Owe c (rest c 8) ∗ tok c 8 0 ∗ tok (yp c) 10 0 ∗ pos c 8 0 ∗ crd c 10 N1 ∗ pos c 10 0)
        ∗ (∀ r, (⌜r = accV m ρ c⌝ ∗ Owe c (rest c 9) ∗ pos c 8 1 ∗ pos c 10 1 ∗ slotAt rW c 2 (recvV m ρ c 2) ∗ bufAt cc0_scratch2 c (accV m ρ c) ∗ bufAt cc0_scratch3 c (accV m ρ (yp c))) -∗ Kt r))
      ⊢ Wp c (k0_part8 (F := F) inM (Memref.isWhole_whole _) oM (Memref.isWhole_whole _) sW (Memref.isWhole_whole _) rW (Memref.isWhole_whole _) aM (Memref.isWhole_whole _) yM (Memref.isWhole_whole _)
        hM (Memref.isWhole_whole _) xM (Memref.isWhole_whole _) cc0_scratch6 cc0_scratch7 cc0_scratch8 cc0_scratch9 cc0_scoped0 c v2 v5 v8 v225 v226) Kt := by
  rw [k0_part8_eq_skeleton]; unfold k0_part8_skel
  simp only [semSignalWord, semWaitWord, Prog.lift, Prog.bind_op, Prog.bind_ret, Prog.pure_eq_ret]
  iintro ⟨⟨#HR, #Hlev, Hr2, ⟨%fa, Ha⟩, Hy, HO, Ht1, Ht2, Ha8, Hc10, Ha10⟩, Hk⟩
  iapply (step_load_slot c rW 2 (recvV m ρ c 2)) $$ Hr2; iintro Hr2
  rw [hv]
  iapply (step_load c aM fa) $$ Ha; iintro Ha
  iapply (step_store c aM fa (Rect.unit (s := S256x512) ![0, 0] S256x512.size inb_S256x512_S256x512_0_0)) $$ Ha; iintro Ha
  ihave Ha := (Entails.of_eq (congrArg (fun f => bufAt cc0_scratch2 c f) (Memref.write_access_unit_zero_univ (Elt F) cc0_scratch2 hz2 inb_S256x512_S256x512_0_0 fa (accV m ρ c)))) $$ Ha
  iapply (step_send_buf m ρ K c _ (yp c) (dev9_eq c) (by routes) aM yM 8 10 N1 (sS := 8) (sD := 10) rfl rfl (by decide) (by decide) rfl rfl rfl
    (View.set_whole _) (View.set_whole _) (accV m ρ c) (Entails.refl _)
    (fun fd => Entails.of_eq (by
      show bufAt cc0_scratch3 (yp c) _ = bufAt cc0_scratch3 (yp c) (accV m ρ (yp (yp c)))
      rw [yp_yp]; exact congrArg _ (by rw [View.write_whole_univ, View.read_whole]))) (rest c 9)) $$ [Ha Hy HO Ht1 Ht2]
  · isplitr; · iexact HR
    isplitl [Ha]; · iexact Ha
    isplitl [Hy]; · iexact Hy
    isplitl [HO]; · iexact HO
    isplitl [Ht1]; · iexact Ht1
    iexact Ht2
  iintro ⟨Hc8, HO⟩
  iapply (step_waitDma m ρ K c 8 8 rfl (by decide) (src := yM) (dst := aM) N1 rfl rfl (rest c 9) (by rw [levs_rest]; decide)) $$ [Hc8 HO Ha8]
  · isplitr; · iexact HR
    isplitr; · iexact Hlev
    isplitl [Hc8]; · iexact Hc8
    isplitl [HO]; · iexact HO
    iexact Ha8
  iintro ⟨HO, Ha8, Ha⟩
  ihave Ha := (Entails.of_eq (show dmaPay m ρ c 8 = bufAt cc0_scratch2 c (accV m ρ c) from rfl)) $$ Ha
  iapply (step_waitDma m ρ K c 10 10 rfl (by decide) (src := aM) (dst := yM) N1 rfl rfl (rest c 9) (by rw [levs_rest]; decide)) $$ [Hc10 HO Ha10]
  · isplitr; · iexact HR
    isplitr; · iexact Hlev
    isplitl [Hc10]; · iexact Hc10
    isplitl [HO]; · iexact HO
    iexact Ha10
  iintro ⟨HO, Ha10, Hy⟩
  ihave Hy := (Entails.of_eq (show dmaPay m ρ c 10 = bufAt cc0_scratch3 c (accV m ρ (yp c)) from rfl)) $$ Hy
  iapply (step_load c aM (accV m ρ c)) $$ Ha; iintro Ha
  rw [show aM.view.readAt (Elt F) (Rect.unit (s := S256x512) ![0, 0] S256x512.size inb_S256x512_S256x512_0_0).toLoadRect (accV m ρ c) = accV m ρ c from
    Memref.readAt_unit_zero (Elt F) cc0_scratch2 hz2 _ _]
  iapply (step_ret c _ Kt)
  iapply Hk
  isplitr; · ipureintro; rfl
  isplitl [HO]; · iexact HO
  isplitl [Ha8]; · iexact Ha8
  isplitl [Ha10]; · iexact Ha10
  isplitl [Hr2]; · iexact Hr2
  isplitl [Ha]; · iexact Ha
  iexact Hy

set_option maxHeartbeats 800000 in
/-- The half column is put together and exchanged with the `x` mate. -/
theorem part9 (v2 : BitVec 32) (v5 : BitVec 32) (v8 : BitVec 32) (v259 : Vec F S256x512 .bf16) (hv : v259 = accV m ρ c) (Kt : PUnit → sProp 𝕄) :
    iprop((Recs m ρ K ∗ levAts L lv ∗ bufAt cc0_scratch3 c (accV m ρ (yp c)) ∗ bufAny cc0_scratch4 c ∗ bufAny cc0_scratch5 (xp c) ∗ Owe c (rest c 9) ∗ tok c 9 0 ∗ tok (xp c) 11 0 ∗ pos c 9 0)
        ∗ (∀ r, (Owe c (rest c 10) ∗ pos c 9 1 ∗ bufAt cc0_scratch3 c (accV m ρ (yp c)) ∗ bufAt cc0_scratch4 c (halfV m ρ c)) -∗ Kt r))
      ⊢ Wp c (k0_part9 (F := F) inM (Memref.isWhole_whole _) oM (Memref.isWhole_whole _) sW (Memref.isWhole_whole _) rW (Memref.isWhole_whole _) aM (Memref.isWhole_whole _) yM (Memref.isWhole_whole _)
        hM (Memref.isWhole_whole _) xM (Memref.isWhole_whole _) cc0_scratch6 cc0_scratch7 cc0_scratch8 cc0_scratch9 cc0_scoped0 c v2 v5 v8 v259) Kt := by
  rw [k0_part9_eq_skeleton]; unfold k0_part9_skel
  simp only [semSignalWord, semWaitWord, Prog.lift, Prog.bind_op, Prog.bind_ret, Prog.pure_eq_ret]
  subst hv
  iintro ⟨⟨#HR, #Hlev, Hy, ⟨%fh, Hh⟩, Hxb, HO, Ht1, Ht2, Ha9⟩, Hk⟩
  iapply (step_load c hM fh) $$ Hh; iintro Hh
  iapply (step_store c hM fh (Rect.unit (s := S512x512) (k0_off3 c) S256x512.size (k0_off3_inb c))) $$ Hh; iintro Hh
  iapply (step_load c yM (accV m ρ (yp c))) $$ Hy; iintro Hy
  rw [show yM.view.readAt (Elt F) (Rect.unit (s := S256x512) ![0, 0] S256x512.size inb_S256x512_S256x512_0_0).toLoadRect (accV m ρ (yp c)) = accV m ρ (yp c) from
    Memref.readAt_unit_zero (Elt F) cc0_scratch3 hz2 _ _]
  iapply (step_load c hM _) $$ Hh; iintro Hh
  iapply (step_store c hM _ (Rect.unit (s := S512x512) (k0_off4 c) S256x512.size (k0_off4_inb c))) $$ Hh; iintro Hh
  ihave Hh := (Entails.of_eq (congrArg (fun f => bufAt cc0_scratch4 c f) (half_writes m ρ c fh))) $$ Hh
  iapply (step_send_buf m ρ K c _ (xp c) (dev10_eq c) (by routes) hM xM 9 11 N2 (sS := 9) (sD := 11) rfl rfl (by decide) (by decide) rfl rfl rfl
    (View.set_whole _) (View.set_whole _) (halfV m ρ c) (Entails.refl _)
    (fun fd => Entails.of_eq (by
      show bufAt cc0_scratch5 (xp c) _ = bufAt cc0_scratch5 (xp c) (halfV m ρ (xp (xp c)))
      rw [xp_xp]; exact congrArg _ (by rw [View.write_whole_univ, View.read_whole]))) (rest c 10)) $$ [Hh Hxb HO Ht1 Ht2]
  · isplitr; · iexact HR
    isplitl [Hh]; · iexact Hh
    isplitl [Hxb]; · iexact Hxb
    isplitl [HO]; · iexact HO
    isplitl [Ht1]; · iexact Ht1
    iexact Ht2
  iintro ⟨Hc9, HO⟩
  iapply (step_waitDma m ρ K c 9 9 rfl (by decide) (src := xM) (dst := hM) N2 rfl rfl (rest c 10) (by rw [levs_rest]; decide)) $$ [Hc9 HO Ha9]
  · isplitr; · iexact HR
    isplitr; · iexact Hlev
    isplitl [Hc9]; · iexact Hc9
    isplitl [HO]; · iexact HO
    iexact Ha9
  iintro ⟨HO, Ha9, Hh⟩
  ihave Hh := (Entails.of_eq (show dmaPay m ρ c 9 = bufAt cc0_scratch4 c (halfV m ρ c) from rfl)) $$ Hh
  iapply (step_ret c _ Kt)
  iapply Hk
  isplitl [HO]; · iexact HO
  isplitl [Ha9]; · iexact Ha9
  isplitl [Hy]; · iexact Hy
  iexact Hh

set_option maxHeartbeats 800000 in
/-- The `x` mate's half column is awaited, the result stored, and two send semaphores awaited. -/
theorem part10 (v2 : BitVec 32) (Kt : PUnit → sProp 𝕄) :
    iprop((Recs m ρ K ∗ levAts L lv ∗ bufAt cc0_scratch4 c (halfV m ρ c) ∗ bufAny cc0_stg1_0 c ∗ Owe c (rest c 10) ∗ crd c 11 N2 ∗ pos c 11 0 ∗ crd c 2 N1 ∗ pos c 2 0 ∗ crd c 3 N1 ∗ pos c 3 0)
        ∗ (∀ r, (Owe c (rest c 10) ∗ pos c 11 1 ∗ pos c 2 1 ∗ pos c 3 1 ∗ bufAt cc0_scratch4 c (halfV m ρ c) ∗ bufAt cc0_scratch5 c (halfV m ρ (xp c)) ∗ bufAt cc0_stg1_0 c (outV m ρ c) ∗ slotAt sW c 0 (sentV m ρ c 0) ∗ slotAt sW c 1 (sentV m ρ c 1)) -∗ Kt r))
      ⊢ Wp c (k0_part10 (F := F) inM (Memref.isWhole_whole _) oM (Memref.isWhole_whole _) sW (Memref.isWhole_whole _) rW (Memref.isWhole_whole _) aM (Memref.isWhole_whole _) yM (Memref.isWhole_whole _)
        hM (Memref.isWhole_whole _) xM (Memref.isWhole_whole _) cc0_scratch6 cc0_scratch7 cc0_scratch8 cc0_scratch9 cc0_scoped0 c v2) Kt := by
  rw [k0_part10_eq_skeleton]; unfold k0_part10_skel
  simp only [semSignalWord, semWaitWord, Prog.lift, Prog.bind_op, Prog.bind_ret, Prog.pure_eq_ret]
  iintro ⟨⟨#HR, #Hlev, Hh, ⟨%fo, Ho⟩, HO, Hc11, Ha11, Hc2, Ha2, Hc3, Ha3⟩, Hk⟩
  iapply (step_waitDma m ρ K c 11 11 rfl (by decide) (src := hM) (dst := xM) N2 rfl rfl (rest c 10) (by rw [levs_rest]; decide)) $$ [Hc11 HO Ha11]
  · isplitr; · iexact HR
    isplitr; · iexact Hlev
    isplitl [Hc11]; · iexact Hc11
    isplitl [HO]; · iexact HO
    iexact Ha11
  iintro ⟨HO, Ha11, Hxb⟩
  ihave Hxb := (Entails.of_eq (show dmaPay m ρ c 11 = bufAt cc0_scratch5 c (halfV m ρ (xp c)) from rfl)) $$ Hxb
  iapply (step_load c hM (halfV m ρ c)) $$ Hh; iintro Hh
  rw [show hM.view.readAt (Elt F) (Rect.unit (s := S512x512) ![0, 0] S512x512.size inb_S512x512_S512x512_0_0).toLoadRect (halfV m ρ c) = halfV m ρ c from
    Memref.readAt_unit_zero (Elt F) cc0_scratch4 hz2 _ _]
  iapply (step_load c oM fo) $$ Ho; iintro Ho
  iapply (step_store c oM fo (Rect.unit (s := S1024x512) (k0_off5 c) S512x512.size (k0_off5_inb c))) $$ Ho; iintro Ho
  iapply (step_load c xM (halfV m ρ (xp c))) $$ Hxb; iintro Hxb
  rw [show xM.view.readAt (Elt F) (Rect.unit (s := S512x512) ![0, 0] S512x512.size inb_S512x512_S512x512_0_0).toLoadRect (halfV m ρ (xp c)) = halfV m ρ (xp c) from
    Memref.readAt_unit_zero (Elt F) cc0_scratch5 hz2 _ _]
  iapply (step_load c oM _) $$ Ho; iintro Ho
  iapply (step_store c oM _ (Rect.unit (s := S1024x512) (k0_off6 c) S512x512.size (k0_off6_inb c))) $$ Ho; iintro Ho
  ihave Ho := (Entails.of_eq (congrArg (fun f => bufAt cc0_stg1_0 c f) (out_writes m ρ c fo))) $$ Ho
  iapply (step_waitDma m ρ K c 2 2 rfl (by decide) (src := rM 2) (dst := sM 0) N1 rfl rfl (rest c 10) (by rw [levs_rest]; decide)) $$ [Hc2 HO Ha2]
  · isplitr; · iexact HR
    isplitr; · iexact Hlev
    isplitl [Hc2]; · iexact Hc2
    isplitl [HO]; · iexact HO
    iexact Ha2
  iintro ⟨HO, Ha2, Hs0⟩
  ihave Hs0 := (Entails.of_eq (show dmaPay m ρ c 2 = slotAt sW c 0 (sentV m ρ c 0) from rfl)) $$ Hs0
  iapply (step_waitDma m ρ K c 3 3 rfl (by decide) (src := rM 1) (dst := sM 1) N1 rfl rfl (rest c 10) (by rw [levs_rest]; decide)) $$ [Hc3 HO Ha3]
  · isplitr; · iexact HR
    isplitr; · iexact Hlev
    isplitl [Hc3]; · iexact Hc3
    isplitl [HO]; · iexact HO
    iexact Ha3
  iintro ⟨HO, Ha3, Hs1⟩
  ihave Hs1 := (Entails.of_eq (show dmaPay m ρ c 3 = slotAt sW c 1 (sentV m ρ c 1) from rfl)) $$ Hs1
  iapply (step_ret c _ Kt)
  iapply Hk
  isplitl [HO]; · iexact HO
  isplitl [Ha11]; · iexact Ha11
  isplitl [Ha2]; · iexact Ha2
  isplitl [Ha3]; · iexact Ha3
  isplitl [Hh]; · iexact Hh
  isplitl [Hxb]; · iexact Hxb
  isplitl [Ho]; · iexact Ho
  isplitl [Hs0]; · iexact Hs0
  iexact Hs1

set_option maxHeartbeats 800000 in
/-- The last send semaphore is awaited and the exit units of the `z` peers paid. -/
theorem part11 (v2 : BitVec 32) (v5 : BitVec 32) (v8 : BitVec 32) (v22 : BitVec 32) (v33 : BitVec 32) (v44 : BitVec 32) (v45 : BitVec 32) (Kt : PUnit → sProp 𝕄) :
    iprop((Recs m ρ K ∗ levAts L lv ∗ Owe c (rest c 10) ∗ crd c 4 N1 ∗ pos c 4 0 ∗ tok (peer 0 c) 1 0 ∗ tok (peer 1 c) 1 1 ∗ tok (peer 2 c) 1 2)
        ∗ (∀ r, (Owe c (rest c 13) ∗ pos c 4 1 ∗ slotAt sW c 2 (sentV m ρ c 2)) -∗ Kt r))
      ⊢ Wp c (k0_part11 (F := F) inM (Memref.isWhole_whole _) oM (Memref.isWhole_whole _) sW (Memref.isWhole_whole _) rW (Memref.isWhole_whole _) aM (Memref.isWhole_whole _) yM (Memref.isWhole_whole _)
        hM (Memref.isWhole_whole _) xM (Memref.isWhole_whole _) cc0_scratch6 cc0_scratch7 cc0_scratch8 cc0_scratch9 cc0_scoped0 c v2 v5 v8 v22 v33 v44 v45) Kt := by
  rw [k0_part11_eq_skeleton]; unfold k0_part11_skel
  simp only [semSignalWord, semWaitWord, Prog.lift, Prog.bind_op, Prog.bind_ret, Prog.pure_eq_ret]
  iintro ⟨⟨#HR, #Hlev, HO, Hc4, Ha4, Ht0, Ht1, Ht2⟩, Hk⟩
  iapply (step_waitDma m ρ K c 4 4 rfl (by decide) (src := rM 0) (dst := sM 2) N1 rfl rfl (rest c 10) (by rw [levs_rest]; decide)) $$ [Hc4 HO Ha4]
  · isplitr; · iexact HR
    isplitr; · iexact Hlev
    isplitl [Hc4]; · iexact Hc4
    isplitl [HO]; · iexact HO
    iexact Ha4
  iintro ⟨HO, Ha4, Hs2⟩
  ihave Hs2 := (Entails.of_eq (show dmaPay m ρ c 4 = slotAt sW c 2 (sentV m ρ c 2) from rfl)) $$ Hs2
  iapply (step_signal m ρ K c _ 0 1 1 rfl (dev11_eq c) (rest c 11)) $$ [HO Ht0]
  · isplitr; · iexact HR
    isplitl [HO]; · iexact HO
    isplitl [Ht0]; · iexact Ht0
    rw [exit_pay]; iempintro
  iintro HO
  iapply (step_signal m ρ K c _ 1 1 1 rfl (dev12_eq c) (rest c 12)) $$ [HO Ht1]
  · isplitr; · iexact HR
    isplitl [HO]; · iexact HO
    isplitl [Ht1]; · iexact Ht1
    rw [exit_pay]; iempintro
  iintro HO
  iapply (step_signal m ρ K c _ 2 1 1 rfl (dev13_eq c) (rest c 13)) $$ [HO Ht2]
  · isplitr; · iexact HR
    isplitl [HO]; · iexact HO
    isplitl [Ht2]; · iexact Ht2
    rw [exit_pay]; iempintro
  iintro HO
  iapply (step_ret c _ Kt)
  iapply Hk
  isplitl [HO]; · iexact HO
  isplitl [Ha4]; · iexact Ha4
  iexact Hs2

end Parts

end Cert.RunKernelIdeal

end
-- ==== Proof.KernelIdeal.Body.lean ====
/-
The kernel's body whole: from what the launch hands a device to its result, every semaphore at zero and every buffer returned.
-/
module

public import proofs.«01_k».proof.Proof.KernelIdeal.Parts
public import Idealize.ShloMosaic.Lib.ViewIndex

@[expose] public section

noncomputable section

namespace Cert.RunKernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 12 → ℕ)

/-! ## A three-slot buffer and its slots -/

/-- Two slots of an array of three share no element. -/
theorem slot_disjoint (M : Memref sig .tc .vmem S3x256x512 .bf16) (j k : Fin 3) (h : j ≠ k) : Disjoint (slotSet M j) (slotSet M k) := by
  have hr : Disjoint (rS j).set (rS k).set := Rect.disjoint_of_separated (rS j) (rS k) (0 : Fin 3) (by revert j k; decide)
  exact View.disjoint_slice hr

/-- A family over the three slots. -/
theorem three (Φ : Fin 3 → sProp 𝕄) : bigSep Finset.univ Φ = iprop(Φ 0 ∗ Φ 1 ∗ Φ 2) := by
  rw [bigSep_univ_eq_bigSepL [0, 1, 2] (by decide) (by decide)]; rfl

/-- What lies in no slot (nothing). -/
def restAny (M : Memref sig .tc .vmem S3x256x512 .bf16) (c : Dev nD) : sProp 𝕄 :=
  iprop(∃ f : Buf (Elt F) (M.view.loc (c : Thread nD τ)), M.view.loc (c : Thread nD τ) ↦[Ring.restOf (slotSet M)]{fullShare} f)

/-- An array of three slots falls apart into its slots. -/
theorem slots_split (M : Memref sig .tc .vmem S3x256x512 .bf16) (c : Dev nD) :
    (iprop(∃ f : Buf (Elt F) (M.view.loc (c : Thread nD τ)), M.view.loc (c : Thread nD τ) ↦{fullShare} f) : sProp 𝕄)
      ⊢ iprop(slotAny M c 0 ∗ slotAny M c 1 ∗ slotAny M c 2 ∗ restAny M c) := by
  refine (Ring.fam_split_ex (slotSet M) (slot_disjoint M)).trans ?_
  rw [three]
  iintro ⟨⟨H0, H1, H2⟩, Hr⟩
  unfold slotAny restAny
  isplitl [H0]; · iexact H0
  isplitl [H1]; · iexact H1
  isplitl [H2]; · iexact H2
  iexact Hr

/-- Three slots make up their array again. -/
theorem slots_join (M : Memref sig .tc .vmem S3x256x512 .bf16) (c : Dev nD) :
    iprop(slotAny M c 0 ∗ slotAny M c 1 ∗ slotAny M c 2 ∗ restAny M c)
      ⊢ (iprop(∃ f : Buf (Elt F) (M.view.loc (c : Thread nD τ)), M.view.loc (c : Thread nD τ) ↦{fullShare} f) : sProp 𝕄) := by
  unfold slotAny restAny
  iintro ⟨⟨%f0, H0⟩, H1, H2, Hr⟩
  iapply (Ring.fam_join (slotSet M) (slot_disjoint M) f0)
  isplitr [Hr]
  · rw [three]
    isplitl [H0]; · iexists f0; iexact H0
    isplitl [H1]; · iexact H1
    iexact H2
  iexact Hr

/-- The contents of a slot may be forgotten. -/
theorem slotAt_any (M : Memref sig .tc .vmem S3x256x512 .bf16) (c : Dev nD) (j : Fin 3) (V : S1x256x512.Idx → Elt F .bf16) : slotAt M c j V ⊢ (slotAny M c j : sProp 𝕄) := by
  unfold slotAt slotAny
  iintro ⟨%f, -, H⟩
  iexists f; iexact H

/-! ## The body -/

/-- A part of the body followed by the rest. -/
theorem step_bind (c : Dev nD) {α β : Type} (p : Prog (TpuEff nD τ sig (Elt F) Λ₀ .tc) α) (k : α → Prog (TpuEff nD τ sig (Elt F) Λ₀ .tc) β) (Q : β → sProp 𝕄) :
    Wp c p (fun a => Wp c (k a) Q) ⊢ Wp c (p >>= k) Q := by
  unfold Wp; rw [wp_bind]

/-- The duty tokens device `c` pays with. -/
def payToks (c : Dev nD) : sProp 𝕄 :=
  iprop(tok (peer 0 c) 0 0 ∗ tok (peer 1 c) 0 1 ∗ tok (peer 2 c) 0 2 ∗ tok (peer 3 c) 0 3 ∗ tok (peer 4 c) 0 4
    ∗ tok (peer 0 c) 1 0 ∗ tok (peer 1 c) 1 1 ∗ tok (peer 2 c) 1 2 ∗ tok (peer 3 c) 1 3 ∗ tok (peer 4 c) 1 4
    ∗ tok (zp 0 c) 7 0 ∗ tok (zp 1 c) 6 0 ∗ tok (zp 2 c) 5 0 ∗ tok (yp c) 10 0 ∗ tok (xp c) 11 0
    ∗ tok c 2 0 ∗ tok c 3 0 ∗ tok c 4 0 ∗ tok c 8 0 ∗ tok c 9 0)
/-- Its twelve positions before the run. -/
def poss (c : Dev nD) : sProp 𝕄 := iprop(pos c 0 0 ∗ pos c 1 0 ∗ pos c 2 0 ∗ pos c 3 0 ∗ pos c 4 0 ∗ pos c 5 0 ∗ pos c 6 0 ∗ pos c 7 0 ∗ pos c 8 0 ∗ pos c 9 0 ∗ pos c 10 0 ∗ pos c 11 0)
/-- The credit it is given at launch. -/
def crds (c : Dev nD) : sProp 𝕄 := iprop(crd c 0 5 ∗ crd c 1 5 ∗ crd c 5 N1 ∗ crd c 6 N1 ∗ crd c 7 N1 ∗ crd c 10 N1 ∗ crd c 11 N2)
/-- Its scratch buffers, at any contents. -/
def scratch (c : Dev nD) : sProp 𝕄 :=
  iprop(bufAny cc0_scratch0 c ∗ bufAny cc0_scratch1 c ∗ bufAny cc0_scratch2 c ∗ bufAny cc0_scratch3 c ∗ bufAny cc0_scratch4 c ∗ bufAny cc0_scratch5 c)
/-- Its twelve semaphores at zero. -/
def zeros (c : Dev nD) : sProp 𝕄 := iprop(semVal (cl (c, 0)) 0 ∗ semVal (cl (c, 1)) 0 ∗ semVal (cl (c, 2)) 0 ∗ semVal (cl (c, 3)) 0 ∗ semVal (cl (c, 4)) 0 ∗ semVal (cl (c, 5)) 0 ∗ semVal (cl (c, 6)) 0 ∗ semVal (cl (c, 7)) 0 ∗ semVal (cl (c, 8)) 0 ∗ semVal (cl (c, 9)) 0 ∗ semVal (cl (c, 10)) 0 ∗ semVal (cl (c, 11)) 0)

/-- A cell whose round is over closes. -/
theorem close (c : Dev nD) (k : Fin 12) : iprop(Recs m ρ K ∗ pos c k 1) ⊢ (|={Set.univ}=> semVal (cl (c, k)) 0 : sProp 𝕄) := by
  iintro ⟨#HR, Ha⟩
  iapply (Rounds.cell_close ER (rd m ρ) (Set.mem_univ (K (c, k))) (fun h => h) (R := 1) (duties_later m ρ (cl (c, k))))
  isplitr; · iapply (Recs_inv m ρ K (c, k)); iexact HR
  iexact Ha

set_option maxHeartbeats 4000000 in
/-- The body on device `c`, from its ghost state, credit, scratch and staging buffers to its result. -/
theorem sound_body (c : Dev nD) (Kt : PUnit → sProp 𝕄) :
    iprop((Recs m ρ K ∗ levAts L lv ∗ poss c ∗ payToks c ∗ crds c ∗ scratch c ∗ Owe c (debts c) ∗ bufAt cc0_stg0_0 c (xstg m ρ c) ∗ bufAny cc0_stg1_0 c)
        ∗ ((scratch c ∗ zeros c ∗ Owe c [] ∗ bufAt cc0_stg0_0 c (xstg m ρ c) ∗ bufAt cc0_stg1_0 c (outV m ρ c)) -∗ Kt ⟨⟩))
      ⊢ Wp c (cc0_body (F := F) inM (Memref.isWhole_whole _) oM (Memref.isWhole_whole _) sW (Memref.isWhole_whole _) rW (Memref.isWhole_whole _) aM (Memref.isWhole_whole _) yM (Memref.isWhole_whole _)
        hM (Memref.isWhole_whole _) xM (Memref.isWhole_whole _) cc0_scratch6 cc0_scratch7 cc0_scratch8 cc0_scratch9 cc0_scoped0) Kt := by
  rw [cc0_body_eq_skeleton]; unfold cc0_body_skel
  rw [k0_part1_eq_skeleton, k0_part2_eq_skeleton, k0_part3_eq_skeleton]; unfold k0_part1_skel k0_part2_skel k0_part3_skel
  simp only [semSignalWord, semWaitWord, Prog.lift, Prog.bind_op, Prog.bind_ret, Prog.pure_eq_ret, Wp, wp_deviceId]
  unfold poss payToks crds scratch
  iintro ⟨⟨#HR, #Hlev, ⟨Ha0, Ha1, Ha2, Ha3, Ha4, Ha5, Ha6, Ha7, Ha8, Ha9, Ha10, Ha11⟩, ⟨Tb0, Tb1, Tb2, Tb3, Tb4, Te0, Te1, Te2, Te3, Te4, Tv0, Tv1, Tv2, Ty, Tx, Ts0, Ts1, Ts2, Tys, Txs⟩, ⟨Hc0, Hc1, Hc5, Hc6, Hc7, Hc10, Hc11⟩, ⟨HS, HV, Ha, Hy, Hh, Hxb⟩, HO, Hx, Ho⟩, Hk⟩
  ihave HS := (slots_split sW c) $$ HS
  icases HS with ⟨Hs0, Hs1, Hs2, HSr⟩
  ihave HV := (slots_split rW c) $$ HV
  icases HV with ⟨Hr0, Hr1, Hr2, HVr⟩
  iapply (step_signal m ρ K c _ 0 0 0 rfl (dev1_eq c) (rest c 1)) $$ [HO Tb0 Hr0]
  · isplitr; · iexact HR
    isplitl [HO]; · iexact HO
    isplitl [Tb0]; · iexact Tb0
    iapply (Entails.of_eq (barPay_peer m ρ c 0).symm); iexact Hr0
  iintro HO
  iapply (step_signal m ρ K c _ 1 0 0 rfl (dev2_eq c) (rest c 2)) $$ [HO Tb1 Hr1]
  · isplitr; · iexact HR
    isplitl [HO]; · iexact HO
    isplitl [Tb1]; · iexact Tb1
    iapply (Entails.of_eq (barPay_peer m ρ c 1).symm); iexact Hr1
  iintro HO
  iapply (step_signal m ρ K c _ 2 0 0 rfl (dev3_eq c) (rest c 3)) $$ [HO Tb2 Hr2]
  · isplitr; · iexact HR
    isplitl [HO]; · iexact HO
    isplitl [Tb2]; · iexact Tb2
    iapply (Entails.of_eq (barPay_peer m ρ c 2).symm); iexact Hr2
  iintro HO
  iapply (step_signal m ρ K c _ 3 0 0 rfl (dev4_eq c) (rest c 4)) $$ [HO Tb3 Hy]
  · isplitr; · iexact HR
    isplitl [HO]; · iexact HO
    isplitl [Tb3]; · iexact Tb3
    iapply (Entails.of_eq (barPay_peer m ρ c 3).symm); iexact Hy
  iintro HO
  iapply (step_signal m ρ K c _ 4 0 0 rfl (dev5_eq c) (rest c 5)) $$ [HO Tb4 Hxb]
  · isplitr; · iexact HR
    isplitl [HO]; · iexact HO
    isplitl [Tb4]; · iexact Tb4
    iapply (Entails.of_eq (barPay_peer m ρ c 4).symm); iexact Hxb
  iintro HO
  iapply (step_wait m ρ K c 0 (.reg 0) rfl 5 (wpE_semWait_eq 𝒱₀ (c : Thread nD τ) none Set.univ) rfl (rest c 5) (by rw [levs_rest]; decide)) $$ [Hc0 HO Ha0]
  · isplitr; · iexact HR
    isplitr; · iexact Hlev
    isplitl [Hc0]; · iexact Hc0
    isplitl [HO]; · iexact HO
    iexact Ha0
  iintro ⟨HO, Ha0, Hpay⟩
  ihave Hpay := (Entails.of_eq (rest_bar m ρ c)) $$ Hpay
  icases Hpay with ⟨Hd2, Hd1, Hd0, HyP, HxP⟩
  iapply (step_load c inM (xstg m ρ c)) $$ Hx; iintro Hx
  iapply (step_load_any c sW 0) $$ Hs0; iintro %_u Hs0
  iapply (step_store_slot c sW 0) $$ Hs0; iintro Hs0
  iapply (step_bind c _ _ Kt)
  iapply (part4 m ρ K c _ _ _ _ _ _)
  isplitl [Hs0 Hd0 HO Ts0 Tv0 Hx Hs1]
  · isplitr; · iexact HR
    isplitl [Hs0]; · iexact Hs0
    isplitl [Hd0]; · iexact Hd0
    isplitl [HO]; · iexact HO
    isplitl [Ts0]; · iexact Ts0
    isplitl [Tv0]; · iexact Tv0
    isplitl [Hx]; · iexact Hx
    iexact Hs1
  iintro %r ⟨Hc2, HO, Hx, Hs1⟩
  iapply (step_bind c _ _ Kt)
  iapply (part5 m ρ K c _ _ _ _ _ _)
  isplitl [Hs1 Hd1 HO Ts1 Tv1 Hx Hs2]
  · isplitr; · iexact HR
    isplitl [Hs1]; · iexact Hs1
    isplitl [Hd1]; · iexact Hd1
    isplitl [HO]; · iexact HO
    isplitl [Ts1]; · iexact Ts1
    isplitl [Tv1]; · iexact Tv1
    isplitl [Hx]; · iexact Hx
    iexact Hs2
  iintro %r ⟨Hc3, HO, Hx, Hs2⟩
  iapply (step_bind c _ _ Kt)
  iapply (part6 m ρ K c _ _ _ _ _ _ _)
  isplitl [Hs2 Hd2 HO Ts2 Tv2 Hx Hc7 Ha7]
  · isplitr; · iexact HR
    isplitr; · iexact Hlev
    isplitl [Hs2]; · iexact Hs2
    isplitl [Hd2]; · iexact Hd2
    isplitl [HO]; · iexact HO
    isplitl [Ts2]; · iexact Ts2
    isplitl [Tv2]; · iexact Tv2
    isplitl [Hx]; · iexact Hx
    isplitl [Hc7]; · iexact Hc7
    iexact Ha7
  iintro %r ⟨%hr, Hc4, HO, Hx, Ha7, Hr2⟩
  subst hr
  iapply (step_bind c _ _ Kt)
  iapply (part7 m ρ K c _ _ _ _ _ _)
  isplitl [HO Hc6 Ha6 Hc5 Ha5]
  · isplitr; · iexact HR
    isplitr; · iexact Hlev
    isplitl [HO]; · iexact HO
    isplitl [Hc6]; · iexact Hc6
    isplitl [Ha6]; · iexact Ha6
    isplitl [Hc5]; · iexact Hc5
    iexact Ha5
  iintro %r ⟨%hr, HO, Ha6, Ha5, Hr0, Hr1⟩
  subst hr
  dsimp only
  iapply (step_bind c _ _ Kt)
  iapply (part8 m ρ K c _ _ _ _ _ rfl _)
  isplitl [Hr2 Ha HyP HO Tys Ty Ha8 Hc10 Ha10]
  · isplitr; · iexact HR
    isplitr; · iexact Hlev
    isplitl [Hr2]; · iexact Hr2
    isplitl [Ha]; · iexact Ha
    isplitl [HyP]; · iexact HyP
    isplitl [HO]; · iexact HO
    isplitl [Tys]; · iexact Tys
    isplitl [Ty]; · iexact Ty
    isplitl [Ha8]; · iexact Ha8
    isplitl [Hc10]; · iexact Hc10
    iexact Ha10
  iintro %r ⟨%hr, HO, Ha8, Ha10, Hr2, Ha, Hy⟩
  subst hr
  iapply (step_bind c _ _ Kt)
  iapply (part9 m ρ K c _ _ _ _ rfl _)
  isplitl [Hy Hh HxP HO Txs Tx Ha9]
  · isplitr; · iexact HR
    isplitr; · iexact Hlev
    isplitl [Hy]; · iexact Hy
    isplitl [Hh]; · iexact Hh
    isplitl [HxP]; · iexact HxP
    isplitl [HO]; · iexact HO
    isplitl [Txs]; · iexact Txs
    isplitl [Tx]; · iexact Tx
    iexact Ha9
  iintro %r ⟨HO, Ha9, Hy, Hh⟩
  iapply (step_bind c _ _ Kt)
  iapply (part10 m ρ K c _ _)
  isplitl [Hh Ho HO Hc11 Ha11 Hc2 Ha2 Hc3 Ha3]
  · isplitr; · iexact HR
    isplitr; · iexact Hlev
    isplitl [Hh]; · iexact Hh
    isplitl [Ho]; · iexact Ho
    isplitl [HO]; · iexact HO
    isplitl [Hc11]; · iexact Hc11
    isplitl [Ha11]; · iexact Ha11
    isplitl [Hc2]; · iexact Hc2
    isplitl [Ha2]; · iexact Ha2
    isplitl [Hc3]; · iexact Hc3
    iexact Ha3
  iintro %r ⟨HO, Ha11, Ha2, Ha3, Hh, Hxb, Ho, Hs0, Hs1⟩
  iapply (step_bind c _ _ Kt)
  iapply (part11 m ρ K c _ _ _ _ _ _ _ _)
  isplitl [HO Hc4 Ha4 Te0 Te1 Te2]
  · isplitr; · iexact HR
    isplitr; · iexact Hlev
    isplitl [HO]; · iexact HO
    isplitl [Hc4]; · iexact Hc4
    isplitl [Ha4]; · iexact Ha4
    isplitl [Te0]; · iexact Te0
    isplitl [Te1]; · iexact Te1
    iexact Te2
  iintro %r ⟨HO, Ha4, Hs2⟩
  iapply (step_signal m ρ K c _ 3 1 1 rfl (dev14_eq c) (rest c 14)) $$ [HO Te3]
  · isplitr; · iexact HR
    isplitl [HO]; · iexact HO
    isplitl [Te3]; · iexact Te3
    rw [exit_pay]; iempintro
  iintro HO
  iapply (step_signal m ρ K c _ 4 1 1 rfl (dev15_eq c) (rest c 15)) $$ [HO Te4]
  · isplitr; · iexact HR
    isplitl [HO]; · iexact HO
    isplitl [Te4]; · iexact Te4
    rw [exit_pay]; iempintro
  iintro HO
  iapply (step_wait m ρ K c 1 (.reg 1) rfl 5 (wpE_semWait_eq 𝒱₀ (c : Thread nD τ) none Set.univ) rfl (rest c 15) (by rw [levs_rest]; decide)) $$ [Hc1 HO Ha1]
  · isplitr; · iexact HR
    isplitr; · iexact Hlev
    isplitl [Hc1]; · iexact Hc1
    isplitl [HO]; · iexact HO
    iexact Ha1
  iintro ⟨HO, Ha1, -⟩
  imod (close m ρ K c 0) $$ [Ha0] with Hz0
  · isplitr; · iexact HR
    iexact Ha0
  imod (close m ρ K c 1) $$ [Ha1] with Hz1
  · isplitr; · iexact HR
    iexact Ha1
  imod (close m ρ K c 2) $$ [Ha2] with Hz2
  · isplitr; · iexact HR
    iexact Ha2
  imod (close m ρ K c 3) $$ [Ha3] with Hz3
  · isplitr; · iexact HR
    iexact Ha3
  imod (close m ρ K c 4) $$ [Ha4] with Hz4
  · isplitr; · iexact HR
    iexact Ha4
  imod (close m ρ K c 5) $$ [Ha5] with Hz5
  · isplitr; · iexact HR
    iexact Ha5
  imod (close m ρ K c 6) $$ [Ha6] with Hz6
  · isplitr; · iexact HR
    iexact Ha6
  imod (close m ρ K c 7) $$ [Ha7] with Hz7
  · isplitr; · iexact HR
    iexact Ha7
  imod (close m ρ K c 8) $$ [Ha8] with Hz8
  · isplitr; · iexact HR
    iexact Ha8
  imod (close m ρ K c 9) $$ [Ha9] with Hz9
  · isplitr; · iexact HR
    iexact Ha9
  imod (close m ρ K c 10) $$ [Ha10] with Hz10
  · isplitr; · iexact HR
    iexact Ha10
  imod (close m ρ K c 11) $$ [Ha11] with Hz11
  · isplitr; · iexact HR
    iexact Ha11
  iapply (step_ret c _ Kt)
  iapply Hk
  isplitl [Hs0 Hs1 Hs2 HSr Hr0 Hr1 Hr2 HVr Ha Hy Hh Hxb]
  · isplitl [Hs0 Hs1 Hs2 HSr]
    · iapply (slots_join sW c)
      isplitl [Hs0]; · iapply (slotAt_any sW c 0 _); iexact Hs0
      isplitl [Hs1]; · iapply (slotAt_any sW c 1 _); iexact Hs1
      isplitl [Hs2]; · iapply (slotAt_any sW c 2 _); iexact Hs2
      iexact HSr
    isplitl [Hr0 Hr1 Hr2 HVr]
    · iapply (slots_join rW c)
      isplitl [Hr0]; · iapply (slotAt_any rW c 0 _); iexact Hr0
      isplitl [Hr1]; · iapply (slotAt_any rW c 1 _); iexact Hr1
      isplitl [Hr2]; · iapply (slotAt_any rW c 2 _); iexact Hr2
      iexact HVr
    isplitl [Ha]; · iexists _; iexact Ha
    isplitl [Hy]; · iexists _; iexact Hy
    isplitl [Hh]; · iexists _; iexact Hh
    iexists _; iexact Hxb
  isplitl [Hz0 Hz1 Hz2 Hz3 Hz4 Hz5 Hz6 Hz7 Hz8 Hz9 Hz10 Hz11]
  · unfold zeros
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    iexact Hz11
  isplitl [HO]; · iexact HO
  isplitl [Hx]; · iexact Hx
  iexact Ho

end Cert.RunKernelIdeal

end
-- ==== Proof.KernelIdeal.Run.lean ====
/-
The run of the whole program: the pipeline's data, the ghost state dealt at launch, and the final memory.
-/
module

public import proofs.«01_k».proof.Proof.KernelIdeal.Body
public import Idealize.ShloMosaic.Lib.Pipeline.CollectiveSegs

@[expose] public section

noncomputable section

namespace Cert.RunKernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 12 → ℕ)

/-! ## The pipeline's data -/

/-- What device `c`'s body starts from beside its buffers. -/
def start (c : Dev nD) : sProp 𝕄 := iprop((∃ K, Recs m ρ K ∗ poss c ∗ payToks c) ∗ crds c ∗ levAts L lv)
/-- What a device holds beside its windows before the body. -/
def Φ₀ (c : Dev nD) : sProp 𝕄 := iprop(start m ρ c ∗ scratch c)
/-- What it holds beside them after the body. -/
def Φ₁ (c : Dev nD) : sProp 𝕄 := iprop(scratch c ∗ zeros c)

/-- The contents of the two windows: the argument's block stays, the result's becomes the stacked quarters. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outV m ρ c
  Φ t := match t with
    | ⟨0, _⟩ => Φ₀ m ρ c
    | ⟨_ + 1, _⟩ => Φ₁ c
  q _ := fullShare
  owed t := match t with
    | ⟨0, _⟩ => owedL (debts c)
    | ⟨_ + 1, _⟩ => owedL []

/-- A staging buffer at contents `X`, as the pipeline states it. -/
abbrev held (c : Dev nD) (b : Ref sig .tc) (X : b.ty.Contents (Elt F)) : sProp 𝕄 :=
  iprop(∃ f : Buf (Elt F) ((c : Thread nD τ).loc b), ⌜f = X⌝ ∗ bufAt b c f)

/-- What the body starts from. -/
def bodyPre (c : Dev nD) : sProp 𝕄 :=
  iprop(Φ₀ m ρ c ∗ (dats m ρ 0 c).owesAt () t0_0.castSucc
    ∗ (∃ d, held c cc0_stg0_0 ((dats m ρ 0 c).before (0 : Fin 2) t0_0 d))
    ∗ (∃ d, held c cc0_stg1_0 ((dats m ρ 0 c).before (1 : Fin 2) t0_0 d)))
/-- What the body ends with. -/
def bodyPost (c : Dev nD) : sProp 𝕄 :=
  iprop(Φ₁ c ∗ (dats m ρ 0 c).owesAt () t0_0.succ ∗ held c cc0_stg0_0 (xstg m ρ c) ∗ held c cc0_stg1_0 (outV m ρ c))

/-- The body, from the start of the kernel to its end. -/
theorem body_run (c : Dev nD) : bodyPre m ρ c ⊢ Wp c (bodyAt0 (F := F) t0_0) (fun _ => bodyPost m ρ c) := by
  unfold bodyPre Φ₀ start
  iintro ⟨⟨⟨⟨%K, #HR, Hp, Ht⟩, Hc, #Hlev⟩, Hscr⟩, ⟨%W, %hW, HO⟩, ⟨%d0, %g0, %hg0, Hx⟩, ⟨%d1, %g1, %hg1, Ho⟩⟩
  have hx : g0 = xstg m ρ c := by rw [hg0]; unfold Dat.before; rw [if_pos (fetch0_0 t0_0)]; rfl
  subst hx
  iapply (sound_body m ρ K c fun _ => bodyPost m ρ c)
  isplitl [Hp Ht Hc Hscr HO Hx Ho]
  · isplitr; · iexact HR
    isplitr; · iexact Hlev
    isplitl [Hp]; · iexact Hp
    isplitl [Ht]; · iexact Ht
    isplitl [Hc]; · iexact Hc
    isplitl [Hscr]; · iexact Hscr
    isplitl [HO]; · unfold Owe; iexists W; iexact HO
    isplitl [Hx]; · iexact Hx
    iexists g1; iexact Ho
  unfold Owe
  iintro ⟨Hscr, Hz, ⟨%W', HO⟩, Hx, Ho⟩
  unfold bodyPost Φ₁
  isplitl [Hscr Hz]
  · isplitl [Hscr]; · iexact Hscr
    iexact Hz
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Ho

set_option maxRecDepth 4000 in
/-- The pipeline's obligation on the body. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact body_run m ρ c

/-! ## What the launch deals -/

/-- The semaphores the kernel owns: exit, then its ten transfer semaphores. -/
def osem (k : Fin 11) : SemLoc sig := csem k.succ
/-- The kernel's own semaphores are not the pipeline's. -/
theorem ownSemFacts : Pipeline.OwnSemFacts cfg0.spec osem := by decide
/-- Every window is held whole. -/
theorem share_eq (c : Dev nD) (w : Fin cfg0.W) : (dats m ρ 0 c).share w = fullShare := by unfold Dat.share; split <;> rfl

/-- Different cell numbers are different semaphores. -/
theorem csem_injective : Function.Injective csem := by decide
/-- Different cells lie on different devices or are different semaphores. -/
theorem cl_injective : Function.Injective cl := by
  rintro ⟨c, k⟩ ⟨c', k'⟩ h
  have h1 : c = c' := congrArg (fun g : GSem nD τ sig => g.1.1) h
  exact Prod.ext h1 (csem_injective (congrArg Prod.snd h))
/-- All cells of all devices. -/
def cellSet : Finset (GSem nD τ sig) := Finset.univ.map ⟨cl, cl_injective⟩

/-- The twenty duties on a device's own cells. -/
def tk : Fin 20 → Fin 12 × Fin 5 :=
  ![(0, 0), (0, 1), (0, 2), (0, 3), (0, 4), (1, 0), (1, 1), (1, 2), (1, 3), (1, 4), (2, 0), (3, 0), (4, 0), (5, 0), (6, 0), (7, 0), (8, 0), (9, 0), (10, 0), (11, 0)]
/-- The device which pays each of them, as the own device's distance from it. -/
def payer : Fin 20 → (Dev nD ≃ Dev nD) :=
  ![peerE 0, peerE 1, peerE 2, peerE 3, peerE 4, peerE 0, peerE 1, peerE 2, peerE 3, peerE 4, .refl _, .refl _, .refl _, peerE 2, peerE 1, peerE 0, .refl _, .refl _, peerE 3, peerE 4]
/-- The duty that the `j`th token of a device pays. -/
abbrev tokOf (cj : Dev nD × Fin 20) : GSem nD τ sig × ℕ × Fin 5 := (cl (cj.1, (tk cj.2).1), 0, (tk cj.2).2)
/-- Different tokens of a device pay different duties. -/
theorem tk_injective : Function.Injective tk := by decide
/-- Different tokens pay different duties. -/
theorem tokOf_injective : Function.Injective tokOf := by
  rintro ⟨c, j⟩ ⟨c', j'⟩ h
  have h1 := cl_injective (congrArg Prod.fst h)
  exact Prod.ext (congrArg (fun x => x.1) h1) (tk_injective (Prod.ext (congrArg (fun x => x.2) h1) (congrArg (fun x => x.2.2) h)))
/-- All duties of all devices. -/
def tokSet : Finset (GSem nD τ sig × ℕ × Fin 5) := Finset.univ.map ⟨tokOf, tokOf_injective⟩

/-- The ghost state at the launch. -/
def u₀ : UU := (initOf (Pipeline.cells cfgs cellOf_inj) (Pipeline.launchToks cfgs cellOf_inj), initOf cellSet tokSet)

/-- The tokens of device `c`'s own cells. -/
def toks (c : Dev nD) : sProp 𝕄 := bigSep Finset.univ fun j : Fin 20 => tok c (tk j).1 (tk j).2

/-- A family over the twelve cells, written out. -/
theorem twelve (Φ : Fin 12 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) := by
  rw [bigSep_univ_eq_bigSepL [0, 1, 2, 3, 4, 5, 6, 7, 8, 9, 10, 11] (by decide) (by decide)]; rfl

/-- The two orders of a double family. -/
theorem swap {A B : Type} [Fintype A] [Fintype B] [DecidableEq A] [DecidableEq B] (Φ : A → B → sProp 𝕄) :
    (bigSep Finset.univ fun a => bigSep Finset.univ fun b => Φ a b) = bigSep Finset.univ fun b => bigSep Finset.univ fun a => Φ a b := by
  rw [← bigSep_univ_prod (fun p : A × B => Φ p.1 p.2), ← bigSep_univ_prod (fun p : B × A => Φ p.2 p.1), bigSep_univ_equiv (Equiv.prodComm B A)]; rfl

/-- Every token handed to the device which pays with it. -/
theorem toks_around : (bigSep Finset.univ fun c : Dev nD => (toks c : sProp 𝕄)) ⊢ bigSep Finset.univ fun c : Dev nD => payToks c := by
  unfold toks
  rw [swap]
  rw [bigSep_congr (Ψ := fun j : Fin 20 => bigSep Finset.univ fun c : Dev nD => (tok (payer j c) (tk j).1 (tk j).2 : sProp 𝕄))
    fun j _ => bigSep_univ_equiv (payer j) fun c : Dev nD => (tok c (tk j).1 (tk j).2 : sProp 𝕄)]
  rw [swap]
  refine Entails.of_eq (bigSep_congr fun c _ => ?_)
  rw [bigSep_univ_eq_bigSepL [0, 1, 2, 3, 4, 5, 6, 7, 8, 9, 15, 14, 13, 18, 19, 10, 11, 12, 16, 17] (by decide) (by decide)]
  rfl

/-- What the launch element deals device `c`. -/
def G (c : Dev nD) : sProp 𝕄 :=
  iprop((bigSep Finset.univ fun k : Fin 12 => roundState ER (rd m ρ) (cl (c, k)) 0)
    ∗ (bigSep Finset.univ fun k : Fin 12 => iprop(atPos ER (cl (c, k)) 0 ∅ 0 ∗ reached ER (cl (c, k)) 0)) ∗ toks c)
/-- What becomes of it once every cell's invariant is allocated. -/
def G' (c : Dev nD) : sProp 𝕄 := iprop(∃ K, Recs m ρ K ∗ poss c ∗ payToks c)

/-- The rounds' ghost state at the launch is enough for every device's cells. -/
theorem fund_cells : BI.own (ER (initOf cellSet tokSet)) ⊢ (|==> bigSep Finset.univ (G m ρ) : sProp 𝕄) := by
  have hX (Φ : GSem nD τ sig → sProp 𝕄) : bigSep cellSet Φ = bigSep Finset.univ fun c : Dev nD => bigSep Finset.univ fun k : Fin 12 => Φ (cl (c, k)) := by
    unfold cellSet; rw [bigSep_map, bigSep_univ_prod]; rfl
  have hT : bigSep tokSet (fun x => (dutyTok ER x.1 x.2.1 x.2.2 : sProp 𝕄)) = bigSep Finset.univ fun c : Dev nD => toks c := by
    unfold tokSet; rw [bigSep_map, bigSep_univ_prod]; rfl
  iintro HX
  imod (Rounds.fund ER (rd m ρ) cellSet tokSet) $$ HX with ⟨Hst, Hr, Hat, Htok⟩
  imodintro
  ihave Hst := (Entails.of_eq (hX fun g => roundState ER (rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-- The kernel's own semaphores at zero, cell by cell. -/
theorem ownSems0_eq (c : Dev nD) : (Pipeline.ownSems0 (Ix := Unit) (Name := ℕ) (U := UU) (Lvl := ℕ) (Val := Elt F) (τ := τ) osem c : sProp 𝕄)
    = iprop(semVal (cl (c, 1)) 0 ∗ semVal (cl (c, 2)) 0 ∗ semVal (cl (c, 3)) 0 ∗ semVal (cl (c, 4)) 0 ∗ semVal (cl (c, 5)) 0 ∗ semVal (cl (c, 6)) 0 ∗ semVal (cl (c, 7)) 0 ∗ semVal (cl (c, 8)) 0 ∗ semVal (cl (c, 9)) 0 ∗ semVal (cl (c, 10)) 0 ∗ semVal (cl (c, 11)) 0) := by
  rw [Pipeline.ownSems0_eq_of_list c osem [0, 1, 2, 3, 4, 5, 6, 7, 8, 9, 10] (by decide) (by decide)]; rfl
/-- The barrier semaphore at zero. -/
theorem unscopedSems0_eq (c : Dev nD) : (unscopedSems0 c : sProp 𝕄) = semVal (cl (c, 0)) 0 := by
  unfold unscopedSems0; rw [bigSep_eq_bigSepL_of_eq [SemLoc.reg 0] (by decide) (by decide)]; rfl
/-- All semaphores of a device at zero, in these two parts. -/
theorem zeros_eq (c : Dev nD) : (zeros c : sProp 𝕄)
    = iprop(unscopedSems0 c ∗ Pipeline.ownSems0 (Ix := Unit) (Name := ℕ) (U := UU) (Lvl := ℕ) (Val := Elt F) (τ := τ) osem c) := by
  rw [ownSems0_eq, unscopedSems0_eq]; rfl

/-- One device's cells get their invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (cl (c, k))))
          ∗ (bigSep Finset.univ fun k => iprop(atPos ER (cl (c, k)) 0 ∅ 0 ∗ reached ER (cl (c, k)) 0)) ∗ toks c) := by
  unfold G
  iintro ⟨Hos, Hus, Hst, Hrest⟩
  have hz : iprop(unscopedSems0 c ∗ Pipeline.ownSems0 (Ix := Unit) (Name := ℕ) (U := UU) (Lvl := ℕ) (Val := Elt F) (τ := τ) osem c)
      ⊢ (bigSep Finset.univ fun k : Fin 12 => semVal (cl (c, k)) 0 : sProp 𝕄) := by
    rw [← zeros_eq, twelve]; exact Entails.of_eq rfl
  have ha : iprop((bigSep Finset.univ fun k : Fin 12 => semVal (cl (c, k)) 0) ∗ bigSep Finset.univ fun k : Fin 12 => roundState ER (rd m ρ) (cl (c, k)) 0)
      ⊢ (|={Set.univ}=> bigSep Finset.univ fun k => iprop(∃ κ : ℕ, cellInv ER (rd m ρ) κ (cl (c, k))) : sProp 𝕄) := by
    rw [← bigSep_sep']
    exact (bigSep_mono fun k _ => (Rounds.body_intro ER (rd m ρ) (cl (c, k))).trans inv_alloc).trans (bigSep_fupd _ _)
  ihave Hv := hz $$ [Hos Hus]
  · isplitl [Hus] <;> iassumption
  imod ha $$ [Hv Hst] with Hinv
  · isplitl [Hv] <;> iassumption
  imodintro
  isplitl [Hinv]; · iexact Hinv
  iexact Hrest

/-- Facts held for good are shared out to a whole family. -/
theorem share_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The tokens go from the devices whose cells they pay on to the devices that pay. -/
theorem regroup :
    (bigSep Finset.univ fun c : Dev nD => iprop((bigSep Finset.univ fun k => iprop(∃ κ : ℕ, cellInv ER (rd m ρ) κ (cl (c, k))))
          ∗ (bigSep Finset.univ fun k => iprop(atPos ER (cl (c, k)) 0 ∅ 0 ∗ reached ER (cl (c, k)) 0)) ∗ toks c) : sProp 𝕄)
      ⊢ bigSep Finset.univ (G' m ρ) := by
  rw [bigSep_sep', bigSep_sep', ← bigSep_univ_prod (fun ck : Dev nD × Fin 12 => iprop(∃ κ : ℕ, cellInv ER (rd m ρ) κ (cl ck))),
    bigSep_congr (s := Finset.univ) (fun (c : Dev nD) _ => bigSep_sep' Finset.univ (fun k : Fin 12 => (atPos ER (cl (c, k)) 0 ∅ 0 : sProp 𝕄)) (fun k => reached ER (cl (c, k)) 0)),
    bigSep_sep', ← bigSep_univ_prod (fun ck : Dev nD × Fin 12 => (reached ER (cl ck) 0 : sProp 𝕄))]
  have hat : (bigSep Finset.univ fun c : Dev nD => bigSep Finset.univ fun k : Fin 12 => (atPos ER (cl (c, k)) 0 ∅ 0 : sProp 𝕄)) ⊢ bigSep Finset.univ poss :=
    bigSep_mono fun c _ => show _ ⊢ poss c from by rw [twelve]; exact Entails.of_eq rfl
  iintro ⟨HI, ⟨Hat, #HR⟩, Htok⟩
  ihave HK := (BI.bigSep_exists_pi Finset.univ (fun (ck : Dev nD × Fin 12) (κ : ℕ) => (cellInv ER (rd m ρ) κ (cl ck) : sProp 𝕄))) $$ HI
  icases HK with ⟨%K, #HI⟩
  ihave Htk := (toks_around (F := F)) $$ Htok
  iapply (share_out (R := Recs m ρ K) (Φ := fun c : Dev nD => iprop(poss c ∗ payToks c)) fun c _ =>
    show iprop(Recs m ρ K ∗ poss c ∗ payToks c) ⊢ G' m ρ c from by unfold G'; iintro H; iexists K; iexact H)
  isplitr
  · unfold Recs; isplitl; · iexact HI
    iexact HR
  · rw [bigSep_sep']
    isplitl [Hat]
    · iapply hat; iexact Hat
    iexact Htk

/-- All devices' semaphores and ghost state at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- What a list of debts holds for one cell. -/
theorem owedL_at (l : List ((Dev nD × Fin 12) × ℕ)) (q : Dev nD × Fin 12) :
    owedL l (cl q) () = (l.map fun p => if p.1 = q then p.2 else 0).sum := by
  induction l with
  | nil => rfl
  | cons p l ih =>
    rw [owedL, Pi.add_apply, Finsupp.add_apply, tallyAt_apply, ih, List.map_cons, List.sum_cons, Nat.add_comm]
    congr 1
    by_cases h : p.1 = q
    · rw [if_pos h, if_pos ⟨by rw [h], rfl⟩]
    · rw [if_neg h, if_neg fun h' => h (cl_injective h'.1).symm]

/-- What is due on each cell. -/
def due (k : Fin 12) : ℕ := match k with
  | 0 => 5 | 1 => 5 | 5 => N1 | 6 => N1 | 7 => N1 | 10 => N1 | 11 => N2 | _ => 0

/-- What all devices together owe on a cell is what its waits take. -/
theorem debts_sum (c : Dev nD) (k : Fin 12) : ∑ d : Dev nD, owedL (debts d) (cl (c, k)) () = due k := by
  rw [Finset.sum_congr rfl fun d _ => owedL_at (debts d) (c, k)]
  revert c k
  decide +kernel

/-- The launch's credit for one cell. -/
theorem launch_cell (c : Dev nD) (k : Fin 12) :
    tallyOn (cl (c, k)) (launchCredit (Pipeline.owing O₀) 0 (cl (c, k))) = (tallyAt (cl (c, k)) () (due k) : CellTallies nD τ sig Unit) := by
  unfold tallyAt; refine congrArg _ (Finsupp.ext fun u => ?_); cases u
  rw [Pipeline.launchCredit_owing, Finsupp.single_eq_same]
  exact debts_sum c k

/-- The launch's credit for all cells of a device. -/
theorem creds (c : Dev nD) : (Pipeline.launchCred O₀ c : sProp 𝕄) ⊢ crds c := by
  unfold Pipeline.launchCred
  refine (bigSep_subset (Finset.subset_univ (Finset.univ.map ⟨csem, csem_injective⟩))).trans ?_
  rw [bigSep_map]
  refine (Entails.of_eq (bigSep_congr (Ψ := fun k : Fin 12 => (crd c k (due k) : sProp 𝕄)) fun k _ => congrArg cred (launch_cell c k))).trans ?_
  rw [twelve]
  unfold crds
  iintro ⟨H0, H1, -, -, -, H5, H6, H7, -, -, H10, H11⟩
  isplitl [H0]; · iexact H0
  isplitl [H1]; · iexact H1
  isplitl [H5]; · iexact H5
  isplitl [H6]; · iexact H6
  isplitl [H7]; · iexact H7
  isplitl [H10]; · iexact H10
  iexact H11

/-! ## The run -/

/-- What a device gets at the launch is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

/-- With its scratch it makes up the state before the body. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, show Pipeline.scopedRest cfg0.spec c = (scratch c : sProp 𝕄) from scopedRest0_eq c]
  unfold Φ₀
  iintro ⟨Hs, -, Hr⟩
  isplitl [Hs]; · iexact Hs
  iexact Hr

/-- The state after the body gives scratch and semaphores back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, show Pipeline.scopedRest cfg0.spec c = (scratch c : sProp 𝕄) from scopedRest0_eq c]
  unfold Φ₁
  rw [zeros_eq]
  iintro ⟨Hr, Hu, Ho⟩
  isplitl [Hu]; · iexact Hu
  isplitl [Ho]; · iexact Ho
  iexact Hr

/-- The pipeline's waits are allowed. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · refine mayWait c _ (debts c) ?_
      rw [show (debts c).map (fun p => lvOf (csem p.1.2)) = [1, 1, 1, 1, 1, 2, 2, 2, 3, 4, 5, 5, 5, 5, 5] from rfl]
      fin_cases w <;> fin_cases s <;> decide
    · exact mayWait c _ [] fun _ h => nomatch h

/-- What a window's array holds at the end. -/
def finalA (c : Dev nD) (w : Fin cfg0.W) : Buf (Elt F) ((cfg0.win w).arr.view.loc (c : Thread nD τ)) := (dats m ρ 0 c).arrAt w cfg0.N
/-- Every window's array holds that, on every device. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every counter at zero, whatever the float values: every run of the sixteen devices ends, with the
    arrays at their computed contents and every counter back at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument array after the run holds what it held. -/
theorem finalA_arg (c : Dev nD) : finalA m ρ c (0 : Fin 2) = (s₀ m ρ).mem (win0_0.arr.view.loc (c : Thread nD τ)) :=
  (dats (F := F) m ρ 0 c).arrAt_in (0 : Fin 2) rfl _

end Cert.RunKernelIdeal

end
-- ==== Proof.Value.lean ====
/-
The value of the result over the extended reals: every device ends with its columns of the sum of the four blocks.
-/
module

public import proofs.«01_k».proof.Defs
public import proofs.«01_k».proof.Proof.KernelIdeal.Run
public import proofs.«01_k».proof.Proof.Gen.ReferenceIdeal.Run
public import Idealize.ShloMosaic.Lib.ValueIdx
public import Idealize.ShloMosaic.Lib.Pipeline.Value
public import Idealize.ShloMosaic.Lib.Pointwise.Reduce
public import Idealize.ShloMosaic.PureOps.Ideal.Laws

@[expose] public section

noncomputable section

namespace Cert.RunKernelIdeal

open Cert.KernelIdeal Cert.KernelIdeal.Gen
open Idealize.ShloMosaic
open Idealize.ShloMosaic.TcCoe
open Idealize.SL.Sem
open Idealize.ShloMosaic.ValueIdx hiding ix2 ix3 eq_ix2

/-! ## The result array and the staged argument, at any float values -/

section Arrays

variable {F : FTy → Type} [FloatOps F]
variable (m : (ℓ : Loc nD τ sig) → Buf (Elt F) ℓ) (ρ : Dev nD → PrngReg)

/-- The staged block is the argument array. -/
theorem xstg_eq (c : Dev nD) : xstg m ρ c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

/-- The result array after the run is what the body left in the output's staging buffer. -/
theorem finalA_out (c : Dev nD) : finalA m ρ c (1 : Fin 2) = outV m ρ c := by
  have hz : (fun a => (win0_1.index (0 : Fin 1)) a * main_v1.ty.shape.size a) = fun _ => 0 := funext fun a => by fin_cases a <;> decide
  have hr := fun f => Memref.read_access_unit_zero (Elt F) main_v1 hz (fun a => by fin_cases a <;> decide) f
  have ho : (win0_1.blk (0 : Fin 1)).view.read (Elt F) (finalA m ρ c (1 : Fin 2)) = outV m ρ c := by
    unfold finalA
    rw [show cfg0.N = ((0 : Fin 1) : Fin cfg0.N).val + 1 from rfl, (dats m ρ 0 c).arrAt_succ (1 : Fin 2) (0 : Fin 1),
      show (cfg0.win (1 : Fin 2)).flush (0 : Fin 1) = true from by decide, if_pos rfl]
    exact View.read_write_univ _ _
  exact (hr _).symm.trans ho

/-- A load from the staged block at an element. -/
theorem load_apply (off : Fin 3 → ℕ) (inb : ∀ a, off a + S1x256x512.size a ≤ S1x1024x2048.size a) (f : (cc0_stg0_0 : Ref sig .tc).ty.Contents (Elt F))
    (x : S1x256x512.Idx) (y : S1x1024x2048.Idx) (h : ∀ a, (y a).val = off a + (x a).val) :
    inM.view.readAt (Elt F) (Rect.unit (s := S1x1024x2048) off S1x256x512.size inb).toLoadRect f x = f y :=
  congrArg f (funext fun a => Fin.ext (by rw [h a]; exact congrArg (off a + ·) (Nat.one_mul (x a).val)))

/-- The send buffer holds the chunk as it was cut. -/
theorem sentV_eq (c : Dev nD) (j : Fin 3) : sentV m ρ c j = cutV m ρ c j := by
  unfold sentV k0_pay1
  exact shapeCast_shapeCast _ _ _

end Arrays

/-- Where the chunk for the `j`th `z` neighbour begins: the device's quarter of the rows, the neighbour's columns. -/
theorem off1_eq : ∀ (c : Dev nD) (j : Fin 3), k0_off1 c (BitVec.ofNat 32 j.val) = ![0, 512 * (c.val / 8) + 256 * ((c.val / 4) % 2), 512 * ((c.val + 1 + j.val) % 4)] := by
  decide +kernel

/-- Where a device and its `z` neighbours lie. -/
theorem zp_facts : ∀ (k : Fin 3) (c : Dev nD), (zp k c).val / 8 = c.val / 8 ∧ (zp k c).val / 4 % 2 = c.val / 4 % 2
    ∧ ((zp k c).val + 1 + (op k).val) % 4 = c.val % 4 ∧ (zp k c).val % 4 = (c.val + 1 + k.val) % 4 := by decide
/-- Where the `y` neighbour lies. -/
theorem yp_facts : ∀ c : Dev nD, (yp c).val / 8 = c.val / 8 ∧ (yp c).val / 4 % 2 = 1 - c.val / 4 % 2 ∧ (yp c).val % 4 = c.val % 4 := by decide
/-- Where the `x` neighbour lies. -/
theorem xp_facts : ∀ c : Dev nD, (xp c).val / 8 = 1 - c.val / 8 ∧ (xp c).val % 4 = c.val % 4 := by decide

/-! ## The values -/

/-- The whole argument read by number, wrapping around its extents. -/
def get (X : (⟨3, ![4, 1024, 2048]⟩ : Shape).Idx → EReal) (z r k : ℕ) : EReal :=
  X (ix3 ⟨z % 4, Nat.mod_lt _ (by decide)⟩ ⟨r % 1024, Nat.mod_lt _ (by decide)⟩ ⟨k % 2048, Nat.mod_lt _ (by decide)⟩)

/-- The block number counts up to four. -/
theorem get_congr (X : (⟨3, ![4, 1024, 2048]⟩ : Shape).Idx → EReal) {z z' r r' k k' : ℕ} (hz : z % 4 = z' % 4) (hr : r = r') (hk : k = k') :
    get X z r k = get X z' r' k' := by
  subst hr hk
  unfold get
  exact congrArg X (congrArg (fun a => ix3 a _ _) (Fin.ext hz))

/-- The sum of the four blocks at an element. -/
def total (X : (⟨3, ![4, 1024, 2048]⟩ : Shape).Idx → EReal) (r k : ℕ) : EReal := get X 0 r k + get X 1 r k + get X 2 r k + get X 3 r k

/-- Four successive blocks, from whichever the sum starts, add up to it. -/
theorem total_from (X : (⟨3, ![4, 1024, 2048]⟩ : Shape).Idx → EReal) (n r k : ℕ) :
    get X n r k + get X (n + 1) r k + get X (n + 2) r k + get X (n + 3) r k = total X r k := by
  have h : n % 4 = 0 ∨ n % 4 = 1 ∨ n % 4 = 2 ∨ n % 4 = 3 := by omega
  unfold total
  rcases h with h | h | h | h
  · rw [get_congr X (z' := 0) (by omega : n % 4 = _) rfl rfl, get_congr X (z' := 1) (by omega : (n + 1) % 4 = _) rfl rfl,
      get_congr X (z' := 2) (by omega : (n + 2) % 4 = _) rfl rfl, get_congr X (z' := 3) (by omega : (n + 3) % 4 = _) rfl rfl]
  · rw [get_congr X (z' := 1) (by omega : n % 4 = _) rfl rfl, get_congr X (z' := 2) (by omega : (n + 1) % 4 = _) rfl rfl,
      get_congr X (z' := 3) (by omega : (n + 2) % 4 = _) rfl rfl, get_congr X (z' := 0) (by omega : (n + 3) % 4 = _) rfl rfl]
    abel
  · rw [get_congr X (z' := 2) (by omega : n % 4 = _) rfl rfl, get_congr X (z' := 3) (by omega : (n + 1) % 4 = _) rfl rfl,
      get_congr X (z' := 0) (by omega : (n + 2) % 4 = _) rfl rfl, get_congr X (z' := 1) (by omega : (n + 3) % 4 = _) rfl rfl]
    abel
  · rw [get_congr X (z' := 3) (by omega : n % 4 = _) rfl rfl, get_congr X (z' := 0) (by omega : (n + 1) % 4 = _) rfl rfl,
      get_congr X (z' := 1) (by omega : (n + 2) % 4 = _) rfl rfl, get_congr X (z' := 2) (by omega : (n + 3) % 4 = _) rfl rfl]
    abel

section Ideal

variable (m : (ℓ : Loc nD τ sig) → Buf (Elt Ideal) ℓ) (ρ : Dev nD → PrngReg)
variable (X : (⟨3, ![4, 1024, 2048]⟩ : Shape).Idx → EReal)
variable (hX : ∀ (c : Dev nD) (i : S1x1024x2048.Idx), m ((c : Thread nD τ).loc main_arg0) i = get X c.val (i 1).val (i 2).val)
include hX

/-- A load from device `c`'s block, in terms of the whole argument. -/
theorem load_get (c : Dev nD) (off : Fin 3 → ℕ) (inb : ∀ a, off a + S1x256x512.size a ≤ S1x1024x2048.size a) (R K : ℕ) (h : off = ![0, R, K]) (r : Fin 256) (q : Fin 512) :
    inM.view.readAt (Elt Ideal) (Rect.unit (s := S1x1024x2048) off S1x256x512.size inb).toLoadRect (xstg m ρ c) (ix3 (0 : Fin 1) r q) = get X c.val (R + r.val) (K + q.val) := by
  subst h
  have hr : R + 256 ≤ 1024 := inb 1
  have hk : K + 512 ≤ 2048 := inb 2
  rw [load_apply _ inb _ (ix3 (0 : Fin 1) r q) (ix3 (0 : Fin 1) ⟨R + r.val, by omega⟩ ⟨K + q.val, by omega⟩) (fun a => by fin_cases a <;> rfl), xstg_eq, hX]
  rfl

/-- The chunk a device keeps. -/
theorem ownV_get (c : Dev nD) (r : Fin 256) (q : Fin 512) :
    ownV m ρ c (ix3 (0 : Fin 1) r q) = get X c.val (512 * (c.val / 8) + 256 * ((c.val / 4) % 2) + r.val) (512 * (c.val % 4) + q.val) :=
  load_get m ρ X hX c _ _ _ _ (k0_off2_eq c) r q

/-- The chunk which lands in slot `k`. -/
theorem recvV_get (c : Dev nD) (k : Fin 3) (r : Fin 256) (q : Fin 512) :
    recvV m ρ c k (ix3 (0 : Fin 1) r q) = get X (c.val + 1 + k.val) (512 * (c.val / 8) + 256 * ((c.val / 4) % 2) + r.val) (512 * (c.val % 4) + q.val) := by
  obtain ⟨h1, h2, h3, h4⟩ := zp_facts k c
  unfold recvV
  rw [sentV_eq]
  refine (load_get m ρ X hX (zp k c) _ _ _ _ (off1_eq (zp k c) (op k)) r q).trans ?_
  exact get_congr X h4 (by rw [h1, h2]) (by rw [h3])

/-- The sum over `z`. -/
theorem accV_get (c : Dev nD) (r : Fin 256) (q : Fin 512) :
    accV m ρ c (ix2 r q) = total X (512 * (c.val / 8) + 256 * ((c.val / 4) % 2) + r.val) (512 * (c.val % 4) + q.val) := by
  have hc : (Fin.cons ⟨0, Nat.one_pos⟩ (ix2 r q) : S1x256x512.Idx) = ix3 (0 : Fin 1) r q := by
    funext a; fin_cases a <;> rfl
  have hd (v : Vec Ideal S1x256x512 .bf16) : shapeCast S256x512 v shapeCasts_S1x256x512_S256x512 (ix2 r q) = v (ix3 (0 : Fin 1) r q) :=
    (shapeCast_dropUnit_apply ![256, 512] v shapeCasts_S1x256x512_S256x512 (ix2 r q)).trans (congrArg v hc)
  unfold accV k0_pay6 k0_pay5 k0_pay4
  simp only [shapeCast_self, truncf_apply, extf_apply, addf_apply]
  rw [hd, hd, hd, hd, ownV_get m ρ X hX, recvV_get m ρ X hX, recvV_get m ρ X hX, recvV_get m ρ X hX]
  exact total_from X c.val _ _

/-- The half column. -/
theorem halfV_get (c : Dev nD) (r : Fin 512) (q : Fin 512) :
    halfV m ρ c (ix2 r q) = total X (512 * (c.val / 8) + r.val) (512 * (c.val % 4) + q.val) := by
  obtain ⟨h1, h2, h3⟩ := yp_facts c
  have hr := r.isLt
  unfold halfV stack
  show (if r.val / 256 = c.val / 4 % 2 then accV m ρ c else accV m ρ (yp c)) (ix2 ⟨r.val % 256, _⟩ q) = _
  split
  · rename_i h
    rw [accV_get m ρ X hX]
    exact congrArg (fun a => total X a _) (by dsimp only; omega)
  · rename_i h
    rw [accV_get m ρ X hX, h1, h2, h3]
    exact congrArg (fun a => total X a _) (by dsimp only; omega)

/-- The result: the columns of the sum that the device holds. -/
theorem outV_get (c : Dev nD) (r : Fin 1024) (q : Fin 512) :
    outV m ρ c (ix2 r q) = total X r.val (512 * (c.val % 4) + q.val) := by
  obtain ⟨h1, h2⟩ := xp_facts c
  have hr := r.isLt
  have hc : c.val < 16 := c.isLt
  unfold outV stack
  show (if r.val / 512 = c.val / 8 then halfV m ρ c else halfV m ρ (xp c)) (ix2 ⟨r.val % 512, _⟩ q) = _
  split
  · rename_i h
    rw [halfV_get m ρ X hX]
    exact congrArg (fun a => total X a _) (by dsimp only; omega)
  · rename_i h
    rw [halfV_get m ρ X hX, h1, h2]
    exact congrArg (fun a => total X a _) (by dsimp only; omega)

end Ideal

/-! ## The reference -/

/-- The reference's result as a function of its argument. -/
def refV (X : (⟨3, ![4, 1024, 2048]⟩ : Shape).Idx → EReal) : (⟨2, ![1024, 2048]⟩ : Shape).Idx → EReal :=
  truncf (F := Ideal) .bf16 (Host.reduceAdd (extf (F := Ideal) (φ := .bf16) .f32 X Cert.ReferenceIdeal.Gen.facts.bitsLt_bf16_f32) (constant Cert.ReferenceIdeal.S_ .f32 0x00000000#32)
    Cert.ReferenceIdeal.Gen.facts.reducesTo_S4x1024x2048_S1024x2048_d0 Cert.ReferenceIdeal.Gen.facts.h_S_) Cert.ReferenceIdeal.Gen.facts.bitsLt_bf16_f32

/-- It is the sum of the four blocks. -/
theorem refV_apply (X : (⟨3, ![4, 1024, 2048]⟩ : Shape).Idx → EReal) (j : (⟨2, ![1024, 2048]⟩ : Shape).Idx) : refV X j = total X (j 0).val (j 1).val := by
  have h0 := idx2_lt0 j
  have h1 := idx2_lt1 j
  have hg (z : Fin 4) : get X z.val (j 0).val (j 1).val = X (ix3 z ⟨(j 0).val, h0⟩ ⟨(j 1).val, h1⟩) := by
    unfold get
    simp only [Nat.mod_eq_of_lt z.isLt, Nat.mod_eq_of_lt h0, Nat.mod_eq_of_lt h1]
  unfold refV
  rw [truncf_apply, Host.reduceAdd_apply]
  refine (Ideal.hostReduceAdd_r3_a0 _ _ _ j).trans ?_
  rw [show (constant Cert.ReferenceIdeal.S_ .f32 0x00000000#32 : FVec Ideal _ .f32) (Shape.Idx.first Cert.ReferenceIdeal.Gen.facts.h_S_) = (0 : EReal) from Ideal.ofBits_zero_f32, zero_add, Fin.sum_univ_four]
  unfold total
  rw [show get X 0 _ _ = _ from hg 0, show get X 1 _ _ = _ from hg 1, show get X 2 _ _ = _ from hg 2, show get X 3 _ _ = _ from hg 3]
  rfl

/-! ## The blocks of the claim -/

/-- A device's part of the argument: the block its `z` coordinate names. -/
theorem arg_block (c : Dev nD) (X : (⟨3, ![4, 1024, 2048]⟩ : Shape).Idx → EReal) (i : S1x1024x2048.Idx) :
    (Layout.blockN ⟨3, ![1, 1024, 2048]⟩ ⟨3, ![4, 1024, 2048]⟩ (Layout.meshBlock [2, 2, 4] ![[2], [], []] c) X) i = get X c.val (i 1).val (i 2).val := by
  have hb : ((Layout.meshBlock [2, 2, 4] ![[2], [], []] c) (0 : Fin 3)).val = c.val % 4 := by revert c; decide
  have h1 : (i 1).val < 1024 := (i 1).isLt
  have h2 : (i 2).val < 2048 := (i 2).isLt
  have h0 : (i 0).val < 1 := (i 0).isLt
  rw [Layout.blockN_apply]
  unfold get
  refine congrArg X (funext fun a => Fin.ext ?_)
  rw [Layout.TilesN.idx_val]
  fin_cases a
  · show ((Layout.meshBlock [2, 2, 4] ![[2], [], []] c) (0 : Fin 3)).val * 1 + (i 0).val = c.val % 4
    rw [hb]; omega
  · show ((Layout.meshBlock [2, 2, 4] ![[2], [], []] c) (1 : Fin 3)).val * 1024 + (i 1).val = (i 1).val % 1024
    rw [show ((Layout.meshBlock [2, 2, 4] ![[2], [], []] c) (1 : Fin 3)).val = 0 from by revert c; decide]; omega
  · show ((Layout.meshBlock [2, 2, 4] ![[2], [], []] c) (2 : Fin 3)).val * 2048 + (i 2).val = (i 2).val % 2048
    rw [show ((Layout.meshBlock [2, 2, 4] ![[2], [], []] c) (2 : Fin 3)).val = 0 from by revert c; decide]; omega

/-- A device's part of the result: the columns its `z` coordinate names. -/
theorem res_block (c : Dev nD) (X : (⟨3, ![4, 1024, 2048]⟩ : Shape).Idx → EReal) (i : S1024x512.Idx) :
    (Layout.blockN ⟨2, ![1024, 512]⟩ ⟨2, ![1024, 2048]⟩ (Layout.meshBlock [2, 2, 4] ![[], [2]] c) (refV X)) i = total X (i 0).val (512 * (c.val % 4) + (i 1).val) := by
  rw [Layout.blockN_apply, refV_apply, Layout.TilesN.idx_val, Layout.TilesN.idx_val]
  show total X (((Layout.meshBlock [2, 2, 4] ![[], [2]] c) (0 : Fin 2)).val * 1024 + (i 0).val) (((Layout.meshBlock [2, 2, 4] ![[], [2]] c) (1 : Fin 2)).val * 512 + (i 1).val) = _
  rw [show ((Layout.meshBlock [2, 2, 4] ![[], [2]] c) (0 : Fin 2)).val = 0 from by revert c; decide,
    show ((Layout.meshBlock [2, 2, 4] ![[], [2]] c) (1 : Fin 2)).val = c.val % 4 from by revert c; decide, Nat.zero_mul, Nat.zero_add, Nat.mul_comm]

/-- The result array of device `c` after the run is its part of the reference's result. -/
theorem result_block (m : (ℓ : Loc nD τ sig) → Buf (Elt Ideal) ℓ) (ρ : Dev nD → PrngReg) (X : (⟨3, ![4, 1024, 2048]⟩ : Shape).Idx → EReal)
    (hX : ∀ c : Dev nD, m ((c : Thread nD τ).loc main_arg0) = Layout.blockN ⟨3, ![1, 1024, 2048]⟩ ⟨3, ![4, 1024, 2048]⟩ (Layout.meshBlock [2, 2, 4] ![[2], [], []] c) X) (c : Dev nD) :
    finalA m ρ c (1 : Fin 2) = Layout.blockN ⟨2, ![1024, 512]⟩ ⟨2, ![1024, 2048]⟩ (Layout.meshBlock [2, 2, 4] ![[], [2]] c) (refV X) := by
  rw [finalA_out]
  funext i
  refine Eq.trans ?_ (res_block c X i).symm
  rw [show i = ix2 (i 0) (i 1) from eq_ix2 (n0 := 1024) (n1 := 512) i]
  exact outV_get m ρ X (fun c i => (congrFun (hX c) i).trans (arg_block c X i)) c (i 0) (i 1)

end Cert.RunKernelIdeal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Value
public import Idealize.ShloMosaic.Adequacy
public import Idealize.ShloMosaic.Lib.Quiescent
public import Idealize.ShloMosaic.Init

@[expose] public section

noncomputable section

namespace Cert.Proof

open Idealize.ShloMosaic Idealize.SL.Sem Cert.Kernel

/-- The kernel as printed terminates, leaves its argument as it was and every semaphore at zero. -/
theorem frame_kernel : Cert.quiescent_Kernel (hKernel := Cert.Kernel.Gen.facts) := fun m ρ _ =>
  (θ_run (Cert.Kernel.defs (F := Bits)) _ _).mono
    (fun _ h => ⟨fun c => (h.1 c (0 : Fin 2)).trans (Cert.RunKernel.finalA_arg m ρ c), h.2⟩) (Cert.RunKernel.run_main (F := Bits) m ρ)

/-- So does the kernel over the extended reals. -/
theorem frame_ideal : Cert.quiescent_KernelIdeal (hKernelIdeal := Cert.KernelIdeal.Gen.facts) := fun m ρ _ =>
  (θ_run (Cert.KernelIdeal.defs (F := Ideal)) _ _).mono
    (fun _ h => ⟨fun c => (h.1 c (0 : Fin 2)).trans (Cert.RunKernelIdeal.finalA_arg m ρ c), h.2⟩) (Cert.RunKernelIdeal.run_main (F := Ideal) m ρ)

/-- So does the reference, which has no semaphores. -/
theorem frame_reference : Cert.quiescent_ReferenceIdeal (hReferenceIdeal := Cert.ReferenceIdeal.Gen.facts) := fun m ρ _ =>
  (θ_run (Cert.ReferenceIdeal.defs (F := Ideal)) _ _).mono
    (fun r h => ⟨fun c => (h c).2, Idealize.ShloMosaic.sem_eq_zero_of_no_sems (by decide) r.2⟩) (Cert.ReferenceIdeal.Value.run (F := Ideal) m ρ)

/-- Every device ends with its columns of the reference's result. -/
theorem value : Cert.algebraic_KernelIdeal_ReferenceIdeal (hKernelIdeal := Cert.KernelIdeal.Gen.facts) (hReferenceIdeal := Cert.ReferenceIdeal.Gen.facts) := by
  intro m ρ m' ρ' _ hX
  refine ⟨Cert.RunKernelIdeal.refV (m' (((0 : Dev Cert.ReferenceIdeal.nD).tc : Thread Cert.ReferenceIdeal.nD Cert.ReferenceIdeal.τ).loc Cert.ReferenceIdeal.main_arg0)), ?_, ?_⟩
  · exact (θ_run (Cert.KernelIdeal.defs (F := Ideal)) _ _).mono
      (fun _ h c => ⟨(h.1 c (1 : Fin 2)).trans (Cert.RunKernelIdeal.result_block m ρ _ hX c), (h.1 c (0 : Fin 2)).trans (Cert.RunKernelIdeal.finalA_arg m ρ c)⟩)
      (Cert.RunKernelIdeal.run_main (F := Ideal) m ρ)
  · exact (θ_run (Cert.ReferenceIdeal.defs (F := Ideal)) _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  frame_kernel, frame_ideal, frame_reference, trivial, value⟩

end Cert.Proof

end
